-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x510x64x64 : Shape := ⟨4, ![16, 510, 64, 64]⟩
abbrev S16x64x64x510 : Shape := ⟨4, ![16, 64, 64, 510]⟩
abbrev S85x16x24576 : Shape := ⟨3, ![85, 16, 24576]⟩
abbrev S8x4x64x510 : Shape := ⟨4, ![8, 4, 64, 510]⟩
abbrev S2x6x85x8x256 : Shape := ⟨5, ![2, 6, 85, 8, 256]⟩
abbrev S2x6 : Shape := ⟨2, ![2, 6]⟩
abbrev S1x1 : Shape := ⟨2, ![1, 1]⟩
abbrev S_ : Shape := ⟨0, ![]⟩
abbrev S85x8x256 : Shape := ⟨3, ![85, 8, 256]⟩
abbrev S1x1x85x8x256 : Shape := ⟨5, ![1, 1, 85, 8, 256]⟩
abbrev S1x256 : Shape := ⟨2, ![1, 256]⟩
abbrev S1x4x64x510 : Shape := ⟨4, ![1, 4, 64, 510]⟩
abbrev S4x64x510 : Shape := ⟨3, ![4, 64, 510]⟩
abbrev S256x510 : Shape := ⟨2, ![256, 510]⟩
abbrev S510x256 : Shape := ⟨2, ![510, 256]⟩
abbrev S85x256 : Shape := ⟨2, ![85, 256]⟩
abbrev S80x256 : Shape := ⟨2, ![80, 256]⟩
abbrev S1x1x85x1x256 : Shape := ⟨5, ![1, 1, 85, 1, 256]⟩
abbrev S16x24576x85 : Shape := ⟨3, ![16, 24576, 85]⟩

abbrev nBuf : Space → Nat
  | .hbm => 4
  | .vmem => 3
  | .smem => 0
  | _ => 0

abbrev bufTy : (tb : Table) → Fin (tcTables nBuf tb) → BufTy
  | .hbm, ⟨0, _⟩ => ⟨S16x510x64x64, .f32⟩
  | .hbm, ⟨1, _⟩ => ⟨S16x64x64x510, .f32⟩
  | .hbm, ⟨2, _⟩ => ⟨S85x16x24576, .f32⟩
  | .hbm, ⟨3, _⟩ => ⟨S16x24576x85, .f32⟩
  | .local _ .vmem, ⟨0, _⟩ => ⟨S8x4x64x510, .f32⟩
  | .local _ .vmem, ⟨1, _⟩ => ⟨S8x4x64x510, .f32⟩
  | .local _ .vmem, ⟨2, _⟩ => ⟨S2x6x85x8x256, .f32⟩
  | _, _ => ⟨S16x510x64x64, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32_3 : BitVec 32 := 2#32
  let v12 : BitVec 1 := Scalar.cmpi .sge v1 c2_i32_3
  let v13 : BitVec 32 := Scalar.extui v12
  let c0_i32_4 : BitVec 32 := 0#32
  let v14 : BitVec 1 := Scalar.cmpi .ne v13 c0_i32_4
  v14

def k0_off1 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_471 : BitVec 32 := 0#32
  ![v11.toNat, 0]
def k0_off2 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_470 : BitVec 32 := 0#32
  let c0_i32_475 : BitVec 32 := 0#32
  let c0_i32_476 : BitVec 32 := 0#32
  let c0_i32_477 : BitVec 32 := 0#32
  ![v11.toNat, 0, 0, 0, 0]
def k0_off3 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_479 : BitVec 32 := 1#32
  ![v11.toNat, 1]
def k0_off4 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_478 : BitVec 32 := 1#32
  let c0_i32_483 : BitVec 32 := 0#32
  let c0_i32_484 : BitVec 32 := 0#32
  let c0_i32_485 : BitVec 32 := 0#32
  ![v11.toNat, 1, 0, 0, 0]
def k0_off5 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_487 : BitVec 32 := 2#32
  ![v11.toNat, 2]
def k0_off6 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_486 : BitVec 32 := 2#32
  let c0_i32_491 : BitVec 32 := 0#32
  let c0_i32_492 : BitVec 32 := 0#32
  let c0_i32_493 : BitVec 32 := 0#32
  ![v11.toNat, 2, 0, 0, 0]
def k0_off7 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_495 : BitVec 32 := 3#32
  ![v11.toNat, 3]
def k0_off8 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_494 : BitVec 32 := 3#32
  let c0_i32_499 : BitVec 32 := 0#32
  let c0_i32_500 : BitVec 32 := 0#32
  let c0_i32_501 : BitVec 32 := 0#32
  ![v11.toNat, 3, 0, 0, 0]
def k0_off9 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c4_i32_503 : BitVec 32 := 4#32
  ![v11.toNat, 4]
def k0_off10 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c4_i32_502 : BitVec 32 := 4#32
  let c0_i32_507 : BitVec 32 := 0#32
  let c0_i32_508 : BitVec 32 := 0#32
  let c0_i32_509 : BitVec 32 := 0#32
  ![v11.toNat, 4, 0, 0, 0]
def k0_off11 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c5_i32_511 : BitVec 32 := 5#32
  ![v11.toNat, 5]
def k0_off12 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c5_i32_510 : BitVec 32 := 5#32
  let c0_i32_515 : BitVec 32 := 0#32
  let c0_i32_516 : BitVec 32 := 0#32
  let c0_i32_517 : BitVec 32 := 0#32
  ![v11.toNat, 5, 0, 0, 0]
def k0_off13 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v88 : Index := Scalar.indexCast v11
  let c0_23 : Index := 0#32
  let c0_24 : Index := 0#32
  let c0_25 : Index := 0#32
  let c0_26 : Index := 0#32
  ![v88.toNat, 0, 0, 0, 0]
def k0_off14 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v115 : Index := Scalar.indexCast v11
  let c1 : Index := 1#32
  let c0_31 : Index := 0#32
  let c0_32 : Index := 0#32
  let c0_33 : Index := 0#32
  ![v115.toNat, 1, 0, 0, 0]
def k0_off15 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v142 : Index := Scalar.indexCast v11
  let c2 : Index := 2#32
  let c0_38 : Index := 0#32
  let c0_39 : Index := 0#32
  let c0_40 : Index := 0#32
  ![v142.toNat, 2, 0, 0, 0]
def k0_off16 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v169 : Index := Scalar.indexCast v11
  let c3 : Index := 3#32
  let c0_45 : Index := 0#32
  let c0_46 : Index := 0#32
  let c0_47 : Index := 0#32
  ![v169.toNat, 3, 0, 0, 0]
def k0_off17 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v196 : Index := Scalar.indexCast v11
  let c4 : Index := 4#32
  let c0_52 : Index := 0#32
  let c0_53 : Index := 0#32
  let c0_54 : Index := 0#32
  ![v196.toNat, 4, 0, 0, 0]
def k0_off18 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v223 : Index := Scalar.indexCast v11
  let c5 : Index := 5#32
  let c0_59 : Index := 0#32
  let c0_60 : Index := 0#32
  let c0_61 : Index := 0#32
  ![v223.toNat, 5, 0, 0, 0]
def k0_off19 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v254 : Index := Scalar.indexCast v11
  let c0_70 : Index := 0#32
  let c0_71 : Index := 0#32
  let c1_72 : Index := 1#32
  let c0_73 : Index := 0#32
  ![v254.toNat, 0, 0, 1, 0]
def k0_off20 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v281 : Index := Scalar.indexCast v11
  let c1_78 : Index := 1#32
  let c0_79 : Index := 0#32
  let c1_80 : Index := 1#32
  let c0_81 : Index := 0#32
  ![v281.toNat, 1, 0, 1, 0]
def k0_off21 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v308 : Index := Scalar.indexCast v11
  let c2_86 : Index := 2#32
  let c0_87 : Index := 0#32
  let c1_88 : Index := 1#32
  let c0_89 : Index := 0#32
  ![v308.toNat, 2, 0, 1, 0]
def k0_off22 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v335 : Index := Scalar.indexCast v11
  let c3_94 : Index := 3#32
  let c0_95 : Index := 0#32
  let c1_96 : Index := 1#32
  let c0_97 : Index := 0#32
  ![v335.toNat, 3, 0, 1, 0]
def k0_off23 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v362 : Index := Scalar.indexCast v11
  let c4_102 : Index := 4#32
  let c0_103 : Index := 0#32
  let c1_104 : Index := 1#32
  let c0_105 : Index := 0#32
  ![v362.toNat, 4, 0, 1, 0]
def k0_off24 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v389 : Index := Scalar.indexCast v11
  let c5_110 : Index := 5#32
  let c0_111 : Index := 0#32
  let c1_112 : Index := 1#32
  let c0_113 : Index := 0#32
  ![v389.toNat, 5, 0, 1, 0]
def k0_off25 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v420 : Index := Scalar.indexCast v11
  let c0_122 : Index := 0#32
  let c0_123 : Index := 0#32
  let c2_124 : Index := 2#32
  let c0_125 : Index := 0#32
  ![v420.toNat, 0, 0, 2, 0]
def k0_off26 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v447 : Index := Scalar.indexCast v11
  let c1_130 : Index := 1#32
  let c0_131 : Index := 0#32
  let c2_132 : Index := 2#32
  let c0_133 : Index := 0#32
  ![v447.toNat, 1, 0, 2, 0]
def k0_off27 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v474 : Index := Scalar.indexCast v11
  let c2_138 : Index := 2#32
  let c0_139 : Index := 0#32
  let c2_140 : Index := 2#32
  let c0_141 : Index := 0#32
  ![v474.toNat, 2, 0, 2, 0]
def k0_off28 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v501 : Index := Scalar.indexCast v11
  let c3_146 : Index := 3#32
  let c0_147 : Index := 0#32
  let c2_148 : Index := 2#32
  let c0_149 : Index := 0#32
  ![v501.toNat, 3, 0, 2, 0]
def k0_off29 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v528 : Index := Scalar.indexCast v11
  let c4_154 : Index := 4#32
  let c0_155 : Index := 0#32
  let c2_156 : Index := 2#32
  let c0_157 : Index := 0#32
  ![v528.toNat, 4, 0, 2, 0]
def k0_off30 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v555 : Index := Scalar.indexCast v11
  let c5_162 : Index := 5#32
  let c0_163 : Index := 0#32
  let c2_164 : Index := 2#32
  let c0_165 : Index := 0#32
  ![v555.toNat, 5, 0, 2, 0]
def k0_off31 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v586 : Index := Scalar.indexCast v11
  let c0_174 : Index := 0#32
  let c0_175 : Index := 0#32
  let c3_176 : Index := 3#32
  let c0_177 : Index := 0#32
  ![v586.toNat, 0, 0, 3, 0]
def k0_off32 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v613 : Index := Scalar.indexCast v11
  let c1_182 : Index := 1#32
  let c0_183 : Index := 0#32
  let c3_184 : Index := 3#32
  let c0_185 : Index := 0#32
  ![v613.toNat, 1, 0, 3, 0]
def k0_off33 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v640 : Index := Scalar.indexCast v11
  let c2_190 : Index := 2#32
  let c0_191 : Index := 0#32
  let c3_192 : Index := 3#32
  let c0_193 : Index := 0#32
  ![v640.toNat, 2, 0, 3, 0]
def k0_off34 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v667 : Index := Scalar.indexCast v11
  let c3_198 : Index := 3#32
  let c0_199 : Index := 0#32
  let c3_200 : Index := 3#32
  let c0_201 : Index := 0#32
  ![v667.toNat, 3, 0, 3, 0]
def k0_off35 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v694 : Index := Scalar.indexCast v11
  let c4_206 : Index := 4#32
  let c0_207 : Index := 0#32
  let c3_208 : Index := 3#32
  let c0_209 : Index := 0#32
  ![v694.toNat, 4, 0, 3, 0]
def k0_off36 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v721 : Index := Scalar.indexCast v11
  let c5_214 : Index := 5#32
  let c0_215 : Index := 0#32
  let c3_216 : Index := 3#32
  let c0_217 : Index := 0#32
  ![v721.toNat, 5, 0, 3, 0]
def k0_off37 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v752 : Index := Scalar.indexCast v11
  let c0_226 : Index := 0#32
  let c0_227 : Index := 0#32
  let c4_228 : Index := 4#32
  let c0_229 : Index := 0#32
  ![v752.toNat, 0, 0, 4, 0]
def k0_off38 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v779 : Index := Scalar.indexCast v11
  let c1_234 : Index := 1#32
  let c0_235 : Index := 0#32
  let c4_236 : Index := 4#32
  let c0_237 : Index := 0#32
  ![v779.toNat, 1, 0, 4, 0]
def k0_off39 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v806 : Index := Scalar.indexCast v11
  let c2_242 : Index := 2#32
  let c0_243 : Index := 0#32
  let c4_244 : Index := 4#32
  let c0_245 : Index := 0#32
  ![v806.toNat, 2, 0, 4, 0]
def k0_off40 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v833 : Index := Scalar.indexCast v11
  let c3_250 : Index := 3#32
  let c0_251 : Index := 0#32
  let c4_252 : Index := 4#32
  let c0_253 : Index := 0#32
  ![v833.toNat, 3, 0, 4, 0]
def k0_off41 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v860 : Index := Scalar.indexCast v11
  let c4_258 : Index := 4#32
  let c0_259 : Index := 0#32
  let c4_260 : Index := 4#32
  let c0_261 : Index := 0#32
  ![v860.toNat, 4, 0, 4, 0]
def k0_off42 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v887 : Index := Scalar.indexCast v11
  let c5_266 : Index := 5#32
  let c0_267 : Index := 0#32
  let c4_268 : Index := 4#32
  let c0_269 : Index := 0#32
  ![v887.toNat, 5, 0, 4, 0]
def k0_off43 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v918 : Index := Scalar.indexCast v11
  let c0_278 : Index := 0#32
  let c0_279 : Index := 0#32
  let c5_280 : Index := 5#32
  let c0_281 : Index := 0#32
  ![v918.toNat, 0, 0, 5, 0]
def k0_off44 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v945 : Index := Scalar.indexCast v11
  let c1_286 : Index := 1#32
  let c0_287 : Index := 0#32
  let c5_288 : Index := 5#32
  let c0_289 : Index := 0#32
  ![v945.toNat, 1, 0, 5, 0]
def k0_off45 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v972 : Index := Scalar.indexCast v11
  let c2_294 : Index := 2#32
  let c0_295 : Index := 0#32
  let c5_296 : Index := 5#32
  let c0_297 : Index := 0#32
  ![v972.toNat, 2, 0, 5, 0]
def k0_off46 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v999 : Index := Scalar.indexCast v11
  let c3_302 : Index := 3#32
  let c0_303 : Index := 0#32
  let c5_304 : Index := 5#32
  let c0_305 : Index := 0#32
  ![v999.toNat, 3, 0, 5, 0]
def k0_off47 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1026 : Index := Scalar.indexCast v11
  let c4_310 : Index := 4#32
  let c0_311 : Index := 0#32
  let c5_312 : Index := 5#32
  let c0_313 : Index := 0#32
  ![v1026.toNat, 4, 0, 5, 0]
def k0_off48 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1053 : Index := Scalar.indexCast v11
  let c5_318 : Index := 5#32
  let c0_319 : Index := 0#32
  let c5_320 : Index := 5#32
  let c0_321 : Index := 0#32
  ![v1053.toNat, 5, 0, 5, 0]
def k0_off49 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1084 : Index := Scalar.indexCast v11
  let c0_329 : Index := 0#32
  let c0_330 : Index := 0#32
  let c6_331 : Index := 6#32
  let c0_332 : Index := 0#32
  ![v1084.toNat, 0, 0, 6, 0]
def k0_off50 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1111 : Index := Scalar.indexCast v11
  let c1_337 : Index := 1#32
  let c0_338 : Index := 0#32
  let c6_339 : Index := 6#32
  let c0_340 : Index := 0#32
  ![v1111.toNat, 1, 0, 6, 0]
def k0_off51 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1138 : Index := Scalar.indexCast v11
  let c2_345 : Index := 2#32
  let c0_346 : Index := 0#32
  let c6_347 : Index := 6#32
  let c0_348 : Index := 0#32
  ![v1138.toNat, 2, 0, 6, 0]
def k0_off52 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1165 : Index := Scalar.indexCast v11
  let c3_353 : Index := 3#32
  let c0_354 : Index := 0#32
  let c6_355 : Index := 6#32
  let c0_356 : Index := 0#32
  ![v1165.toNat, 3, 0, 6, 0]
def k0_off53 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1192 : Index := Scalar.indexCast v11
  let c4_361 : Index := 4#32
  let c0_362 : Index := 0#32
  let c6_363 : Index := 6#32
  let c0_364 : Index := 0#32
  ![v1192.toNat, 4, 0, 6, 0]
def k0_off54 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1219 : Index := Scalar.indexCast v11
  let c5_369 : Index := 5#32
  let c0_370 : Index := 0#32
  let c6_371 : Index := 6#32
  let c0_372 : Index := 0#32
  ![v1219.toNat, 5, 0, 6, 0]
def k0_off55 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1250 : Index := Scalar.indexCast v11
  let c0_380 : Index := 0#32
  let c0_381 : Index := 0#32
  let c7_382 : Index := 7#32
  let c0_383 : Index := 0#32
  ![v1250.toNat, 0, 0, 7, 0]
def k0_off56 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1277 : Index := Scalar.indexCast v11
  let c1_388 : Index := 1#32
  let c0_389 : Index := 0#32
  let c7_390 : Index := 7#32
  let c0_391 : Index := 0#32
  ![v1277.toNat, 1, 0, 7, 0]
def k0_off57 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1304 : Index := Scalar.indexCast v11
  let c2_396 : Index := 2#32
  let c0_397 : Index := 0#32
  let c7_398 : Index := 7#32
  let c0_399 : Index := 0#32
  ![v1304.toNat, 2, 0, 7, 0]
def k0_off58 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1331 : Index := Scalar.indexCast v11
  let c3_404 : Index := 3#32
  let c0_405 : Index := 0#32
  let c7_406 : Index := 7#32
  let c0_407 : Index := 0#32
  ![v1331.toNat, 3, 0, 7, 0]
def k0_off59 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1358 : Index := Scalar.indexCast v11
  let c4_412 : Index := 4#32
  let c0_413 : Index := 0#32
  let c7_414 : Index := 7#32
  let c0_415 : Index := 0#32
  ![v1358.toNat, 4, 0, 7, 0]
def k0_off60 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1385 : Index := Scalar.indexCast v11
  let c5_420 : Index := 5#32
  let c0_421 : Index := 0#32
  let c7_422 : Index := 7#32
  let c0_423 : Index := 0#32
  ![v1385.toNat, 5, 0, 7, 0]
def k0_off61 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_426 : BitVec 32 := 0#32
  ![v11.toNat, 0]
def k0_off62 (i : grid0.Coords) (c0_i32_424 : BitVec 32) : Fin 3 → Nat :=
  let c0_i32_427 : BitVec 32 := 0#32
  let arg0 : BitVec 32 := BitVec.ofNat 32 (i 0).val
  let c8_i32 : BitVec 32 := 8#32
  let v1389 : BitVec 32 := Scalar.muli arg0 c8_i32
  let arg1 : BitVec 32 := BitVec.ofNat 32 (i 1).val
  let c256_i32 : BitVec 32 := 256#32
  let v1390 : BitVec 32 := Scalar.muli arg1 c256_i32
  let v1391 : BitVec 32 := Scalar.addi c0_i32_424 v1390
  ![0, v1389.toNat, v1391.toNat]
def k0_off63 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_425 : BitVec 32 := 0#32
  let c0_i32_428 : BitVec 32 := 0#32
  let c0_i32_429 : BitVec 32 := 0#32
  let c0_i32_430 : BitVec 32 := 0#32
  ![v11.toNat, 0, 0, 0, 0]
def k0_off64 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_434 : BitVec 32 := 1#32
  ![v11.toNat, 1]
def k0_off65 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_433 : BitVec 32 := 1#32
  let c0_i32_436 : BitVec 32 := 0#32
  let c0_i32_437 : BitVec 32 := 0#32
  let c0_i32_438 : BitVec 32 := 0#32
  ![v11.toNat, 1, 0, 0, 0]
def k0_off66 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_442 : BitVec 32 := 2#32
  ![v11.toNat, 2]
def k0_off67 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_441 : BitVec 32 := 2#32
  let c0_i32_444 : BitVec 32 := 0#32
  let c0_i32_445 : BitVec 32 := 0#32
  let c0_i32_446 : BitVec 32 := 0#32
  ![v11.toNat, 2, 0, 0, 0]
def k0_off68 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_449 : BitVec 32 := 3#32
  ![v11.toNat, 3]
def k0_off69 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32 : BitVec 32 := 3#32
  let c0_i32_451 : BitVec 32 := 0#32
  let c0_i32_452 : BitVec 32 := 0#32
  let c0_i32_453 : BitVec 32 := 0#32
  ![v11.toNat, 3, 0, 0, 0]
def k0_off70 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c4_i32_457 : BitVec 32 := 4#32
  ![v11.toNat, 4]
def k0_off71 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c4_i32_456 : BitVec 32 := 4#32
  let c0_i32_459 : BitVec 32 := 0#32
  let c0_i32_460 : BitVec 32 := 0#32
  let c0_i32_461 : BitVec 32 := 0#32
  ![v11.toNat, 4, 0, 0, 0]
def k0_off72 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c5_i32_464 : BitVec 32 := 5#32
  ![v11.toNat, 5]
def k0_off73 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c5_i32 : BitVec 32 := 5#32
  let c0_i32_466 : BitVec 32 := 0#32
  let c0_i32_467 : BitVec 32 := 0#32
  let c0_i32_468 : BitVec 32 := 0#32
  ![v11.toNat, 5, 0, 0, 0]
def k0_cond2 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31_i32 : BitVec 32 := 31#32
  let v1437 : BitVec 1 := Scalar.cmpi .eq v1 c31_i32
  let v1438 : BitVec 32 := Scalar.extui v1437
  let c0_i32_469 : BitVec 32 := 0#32
  let v1439 : BitVec 1 := Scalar.cmpi .ne v1438 c0_i32_469
  v1439

def k0_off74 (i : grid0.Coords) : Fin 2 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c0_i32_472 : BitVec 32 := 0#32
  ![v1440.toNat, 0]
def k0_off75 (i : grid0.Coords) : Fin 5 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c0_i32_471 : BitVec 32 := 0#32
  let c0_i32_476 : BitVec 32 := 0#32
  let c0_i32_477 : BitVec 32 := 0#32
  let c0_i32_478 : BitVec 32 := 0#32
  ![v1440.toNat, 0, 0, 0, 0]
def k0_off76 (i : grid0.Coords) : Fin 2 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c1_i32_480 : BitVec 32 := 1#32
  ![v1440.toNat, 1]
def k0_off77 (i : grid0.Coords) : Fin 5 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c1_i32_479 : BitVec 32 := 1#32
  let c0_i32_484 : BitVec 32 := 0#32
  let c0_i32_485 : BitVec 32 := 0#32
  let c0_i32_486 : BitVec 32 := 0#32
  ![v1440.toNat, 1, 0, 0, 0]
def k0_off78 (i : grid0.Coords) : Fin 2 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c2_i32_488 : BitVec 32 := 2#32
  ![v1440.toNat, 2]
def k0_off79 (i : grid0.Coords) : Fin 5 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c2_i32_487 : BitVec 32 := 2#32
  let c0_i32_492 : BitVec 32 := 0#32
  let c0_i32_493 : BitVec 32 := 0#32
  let c0_i32_494 : BitVec 32 := 0#32
  ![v1440.toNat, 2, 0, 0, 0]
def k0_off80 (i : grid0.Coords) : Fin 2 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c3_i32_496 : BitVec 32 := 3#32
  ![v1440.toNat, 3]
def k0_off81 (i : grid0.Coords) : Fin 5 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c3_i32_495 : BitVec 32 := 3#32
  let c0_i32_500 : BitVec 32 := 0#32
  let c0_i32_501 : BitVec 32 := 0#32
  let c0_i32_502 : BitVec 32 := 0#32
  ![v1440.toNat, 3, 0, 0, 0]
def k0_off82 (i : grid0.Coords) : Fin 2 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c4_i32_504 : BitVec 32 := 4#32
  ![v1440.toNat, 4]
def k0_off83 (i : grid0.Coords) : Fin 5 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c4_i32_503 : BitVec 32 := 4#32
  let c0_i32_508 : BitVec 32 := 0#32
  let c0_i32_509 : BitVec 32 := 0#32
  let c0_i32_510 : BitVec 32 := 0#32
  ![v1440.toNat, 4, 0, 0, 0]
def k0_off84 (i : grid0.Coords) : Fin 2 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c5_i32_512 : BitVec 32 := 5#32
  ![v1440.toNat, 5]
def k0_off85 (i : grid0.Coords) : Fin 5 → Nat :=
  let c1_i32_470 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let v1440 : BitVec 32 := Scalar.subi c1_i32_470 v11
  let c5_i32_511 : BitVec 32 := 5#32
  let c0_i32_516 : BitVec 32 := 0#32
  let c0_i32_517 : BitVec 32 := 0#32
  let c0_i32_518 : BitVec 32 := 0#32
  ![v1440.toNat, 5, 0, 0, 0]
def k0_off86 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_520 : BitVec 32 := 0#32
  ![v11.toNat, 0]
def k0_off87 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_519 : BitVec 32 := 0#32
  let c0_i32_524 : BitVec 32 := 0#32
  let c0_i32_525 : BitVec 32 := 0#32
  let c0_i32_526 : BitVec 32 := 0#32
  ![v11.toNat, 0, 0, 0, 0]
def k0_off88 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_528 : BitVec 32 := 1#32
  ![v11.toNat, 1]
def k0_off89 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c1_i32_527 : BitVec 32 := 1#32
  let c0_i32_532 : BitVec 32 := 0#32
  let c0_i32_533 : BitVec 32 := 0#32
  let c0_i32_534 : BitVec 32 := 0#32
  ![v11.toNat, 1, 0, 0, 0]
def k0_off90 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_536 : BitVec 32 := 2#32
  ![v11.toNat, 2]
def k0_off91 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2_i32_535 : BitVec 32 := 2#32
  let c0_i32_540 : BitVec 32 := 0#32
  let c0_i32_541 : BitVec 32 := 0#32
  let c0_i32_542 : BitVec 32 := 0#32
  ![v11.toNat, 2, 0, 0, 0]
def k0_off92 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_544 : BitVec 32 := 3#32
  ![v11.toNat, 3]
def k0_off93 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32_543 : BitVec 32 := 3#32
  let c0_i32_548 : BitVec 32 := 0#32
  let c0_i32_549 : BitVec 32 := 0#32
  let c0_i32_550 : BitVec 32 := 0#32
  ![v11.toNat, 3, 0, 0, 0]
def k0_off94 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c4_i32_552 : BitVec 32 := 4#32
  ![v11.toNat, 4]
def k0_off95 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c4_i32_551 : BitVec 32 := 4#32
  let c0_i32_556 : BitVec 32 := 0#32
  let c0_i32_557 : BitVec 32 := 0#32
  let c0_i32_558 : BitVec 32 := 0#32
  ![v11.toNat, 4, 0, 0, 0]
def k0_off96 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c5_i32_560 : BitVec 32 := 5#32
  ![v11.toNat, 5]
def k0_off97 (i : grid0.Coords) : Fin 5 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c5_i32_559 : BitVec 32 := 5#32
  let c0_i32_564 : BitVec 32 := 0#32
  let c0_i32_565 : BitVec 32 := 0#32
  let c0_i32_566 : BitVec 32 := 0#32
  ![v11.toNat, 5, 0, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x4x64x510 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]
-- ==== ReferenceIdeal.lean ====
abbrev S16x510x64x64 : Shape := ⟨4, ![16, 510, 64, 64]⟩
abbrev S6x2 : Shape := ⟨2, ![6, 2]⟩
abbrev S16x6x85x64x64 : Shape := ⟨5, ![16, 6, 85, 64, 64]⟩
abbrev S16x6x64x64x85 : Shape := ⟨5, ![16, 6, 64, 64, 85]⟩
abbrev S16x6x64x64x1 : Shape := ⟨5, ![16, 6, 64, 64, 1]⟩
abbrev S16x6x64x64 : Shape := ⟨4, ![16, 6, 64, 64]⟩
abbrev S_ : Shape := ⟨0, ![]⟩
abbrev S16x6x64x64x80 : Shape := ⟨5, ![16, 6, 64, 64, 80]⟩
abbrev S64 : Shape := ⟨1, ![64]⟩
abbrev S1x1x1x64 : Shape := ⟨4, ![1, 1, 1, 64]⟩
abbrev S1x1x64x1 : Shape := ⟨4, ![1, 1, 64, 1]⟩
abbrev S6x1 : Shape := ⟨2, ![6, 1]⟩
abbrev S6 : Shape := ⟨1, ![6]⟩
abbrev S1x6x1x1 : Shape := ⟨4, ![1, 6, 1, 1]⟩
abbrev S16x6x64x64x4 : Shape := ⟨5, ![16, 6, 64, 64, 4]⟩
abbrev S16x24576x4 : Shape := ⟨3, ![16, 24576, 4]⟩
abbrev S16x24576x1 : Shape := ⟨3, ![16, 24576, 1]⟩
abbrev S16x24576x80 : Shape := ⟨3, ![16, 24576, 80]⟩
abbrev S16x24576x85 : Shape := ⟨3, ![16, 24576, 85]⟩

abbrev nBuf : Space → Nat
  | .hbm => 74
  | .vmem => 0
  | .smem => 0
  | _ => 0

abbrev bufTy : (tb : Table) → Fin (tcTables nBuf tb) → BufTy
  | .hbm, ⟨0, _⟩ => ⟨S16x510x64x64, .f32⟩
  | .hbm, ⟨1, _⟩ => ⟨S6x2, .f32⟩
  | .hbm, ⟨2, _⟩ => ⟨S16x6x85x64x64, .f32⟩
  | .hbm, ⟨3, _⟩ => ⟨S16x6x64x64x85, .f32⟩
  | .hbm, ⟨4, _⟩ => ⟨S16x6x64x64x1, .f32⟩
  | .hbm, ⟨5, _⟩ => ⟨S16x6x64x64, .f32⟩
  | .hbm, ⟨6, _⟩ => ⟨S16x6x64x64, .f32⟩
  | .hbm, ⟨7, _⟩ => ⟨S16x6x64x64, .f32⟩
  | .hbm, ⟨8, _⟩ => ⟨S_, .f32⟩
  | .hbm, ⟨9, _⟩ => ⟨S16x6x64x64, .f32⟩
  | .hbm, ⟨10, _⟩ => ⟨S16x6x64x64, .f32⟩
  | .hbm, ⟨11, _⟩ => ⟨S_, .f32⟩
  | .hbm, ⟨12, _⟩ => ⟨S16x6x64x64, .f32⟩
  | .hbm, ⟨13, _⟩ => ⟨S16x6x64x64, .f32⟩
  | .hbm, ⟨14, _⟩ => ⟨S16x6x64x64x1, .f32⟩
  | .hbm, ⟨15, _⟩ => ⟨S16x6x64x64, .f32⟩
  | .hbm, ⟨16, _⟩ => ⟨S16x6x64x64, .f32⟩
  | .hbm, ⟨17, _⟩ => ⟨S16x6x64x64, .f32⟩
  | .hbm, ⟨18, _⟩ => ⟨S_, .f32⟩
  | .hbm, ⟨19, _⟩ => ⟨S16x6x64x64, .f32⟩
  | .hbm, ⟨20, _⟩ => ⟨S16x6x64x64, .f32⟩
  | .hbm, ⟨21, _⟩ => ⟨S_, .f32⟩
  | .hbm, ⟨22, _⟩ => ⟨S16x6x64x64, .f32⟩
  | .hbm, ⟨23, _⟩ => ⟨S16x6x64x64, .f32⟩
  | .hbm, ⟨24, _⟩ => ⟨S16x6x64x64x1, .f32⟩
  | .hbm, ⟨25, _⟩ => ⟨S16x6x64x64, .f32⟩
  | .hbm, ⟨26, _⟩ => ⟨S16x6x64x64x1, .f32⟩
  | .hbm, ⟨27, _⟩ => ⟨S16x6x64x64, .f32⟩
  | .hbm, ⟨28, _⟩ => ⟨S16x6x64x64x1, .f32⟩
  | .hbm, ⟨29, _⟩ => ⟨S16x6x64x64, .f32⟩
  | .hbm, ⟨30, _⟩ => ⟨S16x6x64x64, .f32⟩
  | .hbm, ⟨31, _⟩ => ⟨S16x6x64x64, .f32⟩
  | .hbm, ⟨32, _⟩ => ⟨S_, .f32⟩
  | .hbm, ⟨33, _⟩ => ⟨S16x6x64x64, .f32⟩
  | .hbm, ⟨34, _⟩ => ⟨S16x6x64x64, .f32⟩
  | .hbm, ⟨35, _⟩ => ⟨S_, .f32⟩
  | .hbm, ⟨36, _⟩ => ⟨S16x6x64x64, .f32⟩
  | .hbm, ⟨37, _⟩ => ⟨S16x6x64x64, .f32⟩
  | .hbm, ⟨38, _⟩ => ⟨S16x6x64x64x80, .f32⟩
  | .hbm, ⟨39, _⟩ => ⟨S64, .f32⟩
  | .hbm, ⟨40, _⟩ => ⟨S1x1x1x64, .f32⟩
  | .hbm, ⟨41, _⟩ => ⟨S64, .f32⟩
  | .hbm, ⟨42, _⟩ => ⟨S1x1x64x1, .f32⟩
  | .hbm, ⟨43, _⟩ => ⟨S_, .f32⟩
  | .hbm, ⟨44, _⟩ => ⟨S6x2, .f32⟩
  | .hbm, ⟨45, _⟩ => ⟨S6x2, .f32⟩
  | .hbm, ⟨46, _⟩ => ⟨S6x1, .f32⟩
  | .hbm, ⟨47, _⟩ => ⟨S6, .f32⟩
  | .hbm, ⟨48, _⟩ => ⟨S1x6x1x1, .f32⟩
  | .hbm, ⟨49, _⟩ => ⟨S6x1, .f32⟩
  | .hbm, ⟨50, _⟩ => ⟨S6, .f32⟩
  | .hbm, ⟨51, _⟩ => ⟨S1x6x1x1, .f32⟩
  | .hbm, ⟨52, _⟩ => ⟨S16x6x64x64, .f32⟩
  | .hbm, ⟨53, _⟩ => ⟨S16x6x64x64, .f32⟩
  | .hbm, ⟨54, _⟩ => ⟨S16x6x64x64, .f32⟩
  | .hbm, ⟨55, _⟩ => ⟨S16x6x64x64, .f32⟩
  | .hbm, ⟨56, _⟩ => ⟨S16x6x64x64, .f32⟩
  | .hbm, ⟨57, _⟩ => ⟨S16x6x64x64, .f32⟩
  | .hbm, ⟨58, _⟩ => ⟨S16x6x64x64, .f32⟩
  | .hbm, ⟨59, _⟩ => ⟨S16x6x64x64, .f32⟩
  | .hbm, ⟨60, _⟩ => ⟨S16x6x64x64, .f32⟩
  | .hbm, ⟨61, _⟩ => ⟨S16x6x64x64, .f32⟩
  | .hbm, ⟨62, _⟩ => ⟨S16x6x64x64x1, .f32⟩
  | .hbm, ⟨63, _⟩ => ⟨S16x6x64x64x1, .f32⟩
  | .hbm, ⟨64, _⟩ => ⟨S16x6x64x64x1, .f32⟩
  | .hbm, ⟨65, _⟩ => ⟨S16x6x64x64x1, .f32⟩
  | .hbm, ⟨66, _⟩ => ⟨S16x6x64x64x4, .f32⟩
  | .hbm, ⟨67, _⟩ => ⟨S16x24576x4, .f32⟩
  | .hbm, ⟨68, _⟩ => ⟨S_, .f32⟩
  | .hbm, ⟨69, _⟩ => ⟨S16x24576x4, .f32⟩
  | .hbm, ⟨70, _⟩ => ⟨S16x24576x4, .f32⟩
  | .hbm, ⟨71, _⟩ => ⟨S16x24576x1, .f32⟩
  | .hbm, ⟨72, _⟩ => ⟨S16x24576x80, .f32⟩
  | .hbm, ⟨73, _⟩ => ⟨S16x24576x85, .f32⟩
  | _, _ => ⟨S16x510x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_4 : Ref sig .tc := ⟨.hbm, 32, rfl⟩
abbrev main_v26 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_6 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_7 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]
-- ==== Proof.Agree.lean ====
/-
  THE TWO PRINTED PROGRAMS ARE ONE. The kernel and its idealization are printed from the same text and no operation was
  rewritten, so at any float semantics they are equal, definition by definition; what is proved of one run holds of the other.
-/
module

public import proofs.«01_k».proof.Proof.Gen.Kernel.Launch
public import proofs.«01_k».proof.Proof.Gen.KernelIdeal.Launch
import all proofs.«01_k».proof.Kernel
import all proofs.«01_k».proof.KernelIdeal

@[expose] public section

noncomputable section

namespace Cert.Agree

open Idealize.ShloMosaic Idealize.SL.Sem

variable {F : FTy → Type} [FloatOps F]

/-- The two programs name the same buffers and semaphores. -/
theorem sig_eq : Cert.Kernel.sig = Cert.KernelIdeal.sig := rfl
/-- Their entry points are the same program. -/
theorem main_eq : Cert.Kernel.main (F := F) = Cert.KernelIdeal.main (F := F) := rfl
/-- Their kernel bodies are the same program. -/
theorem body_eq : @Cert.Kernel.cc0__decode_kernel F _ Cert.Kernel.Gen.facts
    = @Cert.KernelIdeal.cc0__decode_kernel F _ Cert.KernelIdeal.Gen.facts := by exact rfl
/-- Their tables of bodies agree, -/
theorem table_eq : Cert.Kernel.defs₀ (F := F) = Cert.KernelIdeal.defs₀ (F := F) := by
  refine congrArg Defs.onTc ?_
  funext l x
  match l, x with
  | 0, (t, s) => exact rfl
/-- and so do the tables with the pipeline around them. -/
theorem defs_eq : Cert.Kernel.defs (F := F) = Cert.KernelIdeal.defs (F := F) :=
  congrArg (Pipeline.defs Cert.KernelIdeal.pcfgs) table_eq

/-- A run of the idealization, from any memory, is a run of the kernel. -/
theorem run_of (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq, main_eq]
  exact h

end Cert.Agree

end
-- ==== Proof.Names.lean ====
/-
  The names this proof gives to the parts of the kernel's write-behind scheme: the twelve scratch TILES (two groups of
  six), the twelve transfer CELLS counting their copies, and the 32 × 6 PIECES of the result the copies fill. Every
  address the body computes from the grid coordinates is shown to be one of these names.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! ## Tiles, pieces, cells -/

instance : NeZero grid0.N := ⟨by rw [N_0]; decide⟩

/-- The scratch buffer, whole. -/
abbrev scratch : Memref sig .tc .vmem S2x6x85x8x256 .f32 := Memref.whole cc0_scratch0
/-- The array the copies fill, whole. -/
abbrev result : Memref sig .tc .hbm S85x16x24576 .f32 := Memref.whole main_v1

/-- A tile lies inside the scratch. -/
theorem tile_inb (g : Fin 2) (a : Fin 6) :
    ∀ x, (![g.val, a.val, 0, 0, 0] : Fin 5 → Nat) x + S1x1x85x8x256.size x ≤ S2x6x85x8x256.size x := by
  intro x
  have hg := g.isLt
  have ha := a.isLt
  fin_cases x <;> simp <;> omega
/-- A piece lies inside the result. -/
theorem piece_inb (u : Fin 32) (a : Fin 6) :
    ∀ x, (![0, 8 * (u.val / 16), 256 * (u.val % 16) + 4096 * a.val] : Fin 3 → Nat) x + S85x8x256.size x
      ≤ S85x16x24576.size x := by
  intro x
  have hu := u.isLt
  have ha := a.isLt
  fin_cases x <;> simp <;> omega
/-- A cell lies inside the array of cells. -/
theorem cell_inb (g : Fin 2) (a : Fin 6) : ∀ x, (![g.val, a.val] : Fin 2 → Nat) x + S1x1.size x ≤ S2x6.size x := by
  intro x
  have hg := g.isLt
  have ha := a.isLt
  fin_cases x <;> simp <;> omega

/-- Tile `(g, a)`: anchor `a`'s tile of group `g`. -/
def tile (g : Fin 2) (a : Fin 6) : Memref sig .tc .vmem S85x8x256 .f32 :=
  (scratch.slice (Rect.unit (s := S2x6x85x8x256) ![g.val, a.val, 0, 0, 0] S1x1x85x8x256.size (tile_inb g a))
    (fun _ => rfl)).squeeze S85x8x256 squeezes_S1x1x85x8x256_S85x8x256
/-- Piece `(u, a)`: where step `u` copies anchor `a`'s tile. -/
def piece (u : Fin 32) (a : Fin 6) : Memref sig .tc .hbm S85x8x256 .f32 :=
  result.slice (Rect.unit (s := S85x16x24576) ![0, 8 * (u.val / 16), 256 * (u.val % 16) + 4096 * a.val] S85x8x256.size
    (piece_inb u a)) (fun _ => rfl)
/-- Cell `(g, a)`: the transfer semaphore of tile `(g, a)`. -/
def cellA (g : Fin 2) (a : Fin 6) : DmaSems sig S_ :=
  (cc0_scratch1.slice (Rect.unit (s := S2x6) ![g.val, a.val] S1x1.size (cell_inb g a))).squeeze S_ squeezes_S1x1_S_
abbrev cell (g : Fin 2) (a : Fin 6) : SemLoc sig := SemLoc.dma (cellA g a).sem

/-- An address with tile `(g, a)`'s offsets is that tile. -/
theorem tile_of (g : Fin 2) (a : Fin 6) {off : Fin 5 → Nat} (h : off = ![g.val, a.val, 0, 0, 0])
    (inb : ∀ x, off x + S1x1x85x8x256.size x ≤ S2x6x85x8x256.size x) :
    (scratch.slice (Rect.unit (s := S2x6x85x8x256) off S1x1x85x8x256.size inb) (fun _ => rfl)).squeeze S85x8x256
      squeezes_S1x1x85x8x256_S85x8x256 = tile g a := by
  subst h; rfl
/-- An address with piece `(u, a)`'s offsets is that piece. -/
theorem piece_of (u : Fin 32) (a : Fin 6) {off : Fin 3 → Nat}
    (h : off = ![0, 8 * (u.val / 16), 256 * (u.val % 16) + 4096 * a.val])
    (inb : ∀ x, off x + S85x8x256.size x ≤ S85x16x24576.size x) :
    result.slice (Rect.unit (s := S85x16x24576) off S85x8x256.size inb) (fun _ => rfl) = piece u a := by
  subst h; rfl
/-- An address with cell `(g, a)`'s offsets is that cell. -/
theorem cell_of (g : Fin 2) (a : Fin 6) {off : Fin 2 → Nat} (h : off = ![g.val, a.val])
    (inb : ∀ x, off x + S1x1.size x ≤ S2x6.size x) :
    (cc0_scratch1.slice (Rect.unit (s := S2x6) off S1x1.size inb)).squeeze S_ squeezes_S1x1_S_ = cellA g a := by
  subst h; rfl

/-! ## The two branch conditions -/

/-- The wait for the copies of two steps back is taken from step 2 on. -/
abbrev waits (i : grid0.Coords) : Prop := k0_cond1 i = 1#1
/-- The body waits from step 2 on. -/
theorem waits_iff : ∀ t : Fin grid0.N, waits (grid0.coords t) ↔ 2 ≤ t.val := by decide +kernel
/-- The final drain is taken at step 31. -/
abbrev drains (i : grid0.Coords) : Prop := k0_cond2 i = 1#1
/-- The body drains at step 31 alone. -/
theorem drains_iff : ∀ t : Fin grid0.N, drains (grid0.coords t) ↔ t.val = 31 := by decide +kernel

/-! ## The addresses the body computes -/

section Addresses
omit [FloatOps F]
set_option synthInstance.maxSize 4096 in
/-- The computed address of anchor 0's cell in the step's group. -/
theorem off61_eq : ∀ t : Fin grid0.N, k0_off61 (grid0.coords t) = ![(Ring.sl 2 t.val).val, 0] := by decide +kernel
@[sl_canon] theorem off61_at (t : Fin grid0.N) :
    (cc0_scratch1.slice (Rect.unit (s := S2x6) (k0_off61 (grid0.coords t)) S1x1.size (k0_off61_inb (grid0.coords t)))).squeeze S_ squeezes_S1x1_S_ = cellA (Ring.sl 2 t.val) 0 :=
  cell_of (Ring.sl 2 t.val) 0 (off61_eq t) _
@[sl_canon] theorem off61_at' (t : Fin grid0.N) :
    (cc0_scratch1.slice (Rect.unit (s := S2x6) (k0_off61 (grid0.coords t)) ![1, 1] (k0_off61_inb (grid0.coords t)))).squeeze S_ squeezes_S1x1_S_ = cellA (Ring.sl 2 t.val) 0 :=
  cell_of (Ring.sl 2 t.val) 0 (off61_eq t) _
set_option synthInstance.maxSize 4096 in
/-- The computed address of anchor 0's tile in the step's group. -/
theorem off63_eq : ∀ t : Fin grid0.N, k0_off63 (grid0.coords t) = ![(Ring.sl 2 t.val).val, 0, 0, 0, 0] := by decide +kernel
@[sl_canon] theorem off63_at (t : Fin grid0.N) :
    (scratch.slice (Rect.unit (s := S2x6x85x8x256) (k0_off63 (grid0.coords t)) S1x1x85x8x256.size (k0_off63_inb (grid0.coords t))) (fun _ => rfl)).squeeze S85x8x256 squeezes_S1x1x85x8x256_S85x8x256 = tile (Ring.sl 2 t.val) 0 :=
  tile_of (Ring.sl 2 t.val) 0 (off63_eq t) _
@[sl_canon] theorem off63_at' (t : Fin grid0.N) :
    (scratch.slice (Rect.unit (s := S2x6x85x8x256) (k0_off63 (grid0.coords t)) ![1, 1, 85, 8, 256] (k0_off63_inb (grid0.coords t))) (fun _ => rfl)).squeeze S85x8x256 squeezes_S1x1x85x8x256_S85x8x256 = tile (Ring.sl 2 t.val) 0 :=
  tile_of (Ring.sl 2 t.val) 0 (off63_eq t) _
set_option synthInstance.maxSize 4096 in
/-- The computed address of the step's piece. -/
theorem off62_0_eq : ∀ t : Fin grid0.N, k0_off62 (grid0.coords t) 0#32 = ![0, 8 * ((Ring.bk 32 t.val).val / 16), 256 * ((Ring.bk 32 t.val).val % 16) + 4096 * 0] := by decide +kernel
@[sl_canon] theorem off62_0_at (t : Fin grid0.N) :
    result.slice (Rect.unit (s := S85x16x24576) (k0_off62 (grid0.coords t) 0#32) S85x8x256.size (k0_off62_inb (grid0.coords t) 0)) (fun _ => rfl) = piece (Ring.bk 32 t.val) 0 :=
  piece_of (Ring.bk 32 t.val) 0 (off62_0_eq t) _
@[sl_canon] theorem off62_0_at' (t : Fin grid0.N) :
    result.slice (Rect.unit (s := S85x16x24576) (k0_off62 (grid0.coords t) 0#32) ![85, 8, 256] (k0_off62_inb (grid0.coords t) 0)) (fun _ => rfl) = piece (Ring.bk 32 t.val) 0 :=
  piece_of (Ring.bk 32 t.val) 0 (off62_0_eq t) _
set_option synthInstance.maxSize 4096 in
/-- The computed address of anchor 1's cell in the step's group. -/
theorem off64_eq : ∀ t : Fin grid0.N, k0_off64 (grid0.coords t) = ![(Ring.sl 2 t.val).val, 1] := by decide +kernel
@[sl_canon] theorem off64_at (t : Fin grid0.N) :
    (cc0_scratch1.slice (Rect.unit (s := S2x6) (k0_off64 (grid0.coords t)) S1x1.size (k0_off64_inb (grid0.coords t)))).squeeze S_ squeezes_S1x1_S_ = cellA (Ring.sl 2 t.val) 1 :=
  cell_of (Ring.sl 2 t.val) 1 (off64_eq t) _
@[sl_canon] theorem off64_at' (t : Fin grid0.N) :
    (cc0_scratch1.slice (Rect.unit (s := S2x6) (k0_off64 (grid0.coords t)) ![1, 1] (k0_off64_inb (grid0.coords t)))).squeeze S_ squeezes_S1x1_S_ = cellA (Ring.sl 2 t.val) 1 :=
  cell_of (Ring.sl 2 t.val) 1 (off64_eq t) _
set_option synthInstance.maxSize 4096 in
/-- The computed address of anchor 1's tile in the step's group. -/
theorem off65_eq : ∀ t : Fin grid0.N, k0_off65 (grid0.coords t) = ![(Ring.sl 2 t.val).val, 1, 0, 0, 0] := by decide +kernel
@[sl_canon] theorem off65_at (t : Fin grid0.N) :
    (scratch.slice (Rect.unit (s := S2x6x85x8x256) (k0_off65 (grid0.coords t)) S1x1x85x8x256.size (k0_off65_inb (grid0.coords t))) (fun _ => rfl)).squeeze S85x8x256 squeezes_S1x1x85x8x256_S85x8x256 = tile (Ring.sl 2 t.val) 1 :=
  tile_of (Ring.sl 2 t.val) 1 (off65_eq t) _
@[sl_canon] theorem off65_at' (t : Fin grid0.N) :
    (scratch.slice (Rect.unit (s := S2x6x85x8x256) (k0_off65 (grid0.coords t)) ![1, 1, 85, 8, 256] (k0_off65_inb (grid0.coords t))) (fun _ => rfl)).squeeze S85x8x256 squeezes_S1x1x85x8x256_S85x8x256 = tile (Ring.sl 2 t.val) 1 :=
  tile_of (Ring.sl 2 t.val) 1 (off65_eq t) _
set_option synthInstance.maxSize 4096 in
/-- The computed address of the step's piece. -/
theorem off62_1_eq : ∀ t : Fin grid0.N, k0_off62 (grid0.coords t) 4096#32 = ![0, 8 * ((Ring.bk 32 t.val).val / 16), 256 * ((Ring.bk 32 t.val).val % 16) + 4096 * 1] := by decide +kernel
@[sl_canon] theorem off62_1_at (t : Fin grid0.N) :
    result.slice (Rect.unit (s := S85x16x24576) (k0_off62 (grid0.coords t) 4096#32) S85x8x256.size (k0_off62_inb (grid0.coords t) 1)) (fun _ => rfl) = piece (Ring.bk 32 t.val) 1 :=
  piece_of (Ring.bk 32 t.val) 1 (off62_1_eq t) _
@[sl_canon] theorem off62_1_at' (t : Fin grid0.N) :
    result.slice (Rect.unit (s := S85x16x24576) (k0_off62 (grid0.coords t) 4096#32) ![85, 8, 256] (k0_off62_inb (grid0.coords t) 1)) (fun _ => rfl) = piece (Ring.bk 32 t.val) 1 :=
  piece_of (Ring.bk 32 t.val) 1 (off62_1_eq t) _
set_option synthInstance.maxSize 4096 in
/-- The computed address of anchor 2's cell in the step's group. -/
theorem off66_eq : ∀ t : Fin grid0.N, k0_off66 (grid0.coords t) = ![(Ring.sl 2 t.val).val, 2] := by decide +kernel
@[sl_canon] theorem off66_at (t : Fin grid0.N) :
    (cc0_scratch1.slice (Rect.unit (s := S2x6) (k0_off66 (grid0.coords t)) S1x1.size (k0_off66_inb (grid0.coords t)))).squeeze S_ squeezes_S1x1_S_ = cellA (Ring.sl 2 t.val) 2 :=
  cell_of (Ring.sl 2 t.val) 2 (off66_eq t) _
@[sl_canon] theorem off66_at' (t : Fin grid0.N) :
    (cc0_scratch1.slice (Rect.unit (s := S2x6) (k0_off66 (grid0.coords t)) ![1, 1] (k0_off66_inb (grid0.coords t)))).squeeze S_ squeezes_S1x1_S_ = cellA (Ring.sl 2 t.val) 2 :=
  cell_of (Ring.sl 2 t.val) 2 (off66_eq t) _
set_option synthInstance.maxSize 4096 in
/-- The computed address of anchor 2's tile in the step's group. -/
theorem off67_eq : ∀ t : Fin grid0.N, k0_off67 (grid0.coords t) = ![(Ring.sl 2 t.val).val, 2, 0, 0, 0] := by decide +kernel
@[sl_canon] theorem off67_at (t : Fin grid0.N) :
    (scratch.slice (Rect.unit (s := S2x6x85x8x256) (k0_off67 (grid0.coords t)) S1x1x85x8x256.size (k0_off67_inb (grid0.coords t))) (fun _ => rfl)).squeeze S85x8x256 squeezes_S1x1x85x8x256_S85x8x256 = tile (Ring.sl 2 t.val) 2 :=
  tile_of (Ring.sl 2 t.val) 2 (off67_eq t) _
@[sl_canon] theorem off67_at' (t : Fin grid0.N) :
    (scratch.slice (Rect.unit (s := S2x6x85x8x256) (k0_off67 (grid0.coords t)) ![1, 1, 85, 8, 256] (k0_off67_inb (grid0.coords t))) (fun _ => rfl)).squeeze S85x8x256 squeezes_S1x1x85x8x256_S85x8x256 = tile (Ring.sl 2 t.val) 2 :=
  tile_of (Ring.sl 2 t.val) 2 (off67_eq t) _
set_option synthInstance.maxSize 4096 in
/-- The computed address of the step's piece. -/
theorem off62_2_eq : ∀ t : Fin grid0.N, k0_off62 (grid0.coords t) 8192#32 = ![0, 8 * ((Ring.bk 32 t.val).val / 16), 256 * ((Ring.bk 32 t.val).val % 16) + 4096 * 2] := by decide +kernel
@[sl_canon] theorem off62_2_at (t : Fin grid0.N) :
    result.slice (Rect.unit (s := S85x16x24576) (k0_off62 (grid0.coords t) 8192#32) S85x8x256.size (k0_off62_inb (grid0.coords t) 2)) (fun _ => rfl) = piece (Ring.bk 32 t.val) 2 :=
  piece_of (Ring.bk 32 t.val) 2 (off62_2_eq t) _
@[sl_canon] theorem off62_2_at' (t : Fin grid0.N) :
    result.slice (Rect.unit (s := S85x16x24576) (k0_off62 (grid0.coords t) 8192#32) ![85, 8, 256] (k0_off62_inb (grid0.coords t) 2)) (fun _ => rfl) = piece (Ring.bk 32 t.val) 2 :=
  piece_of (Ring.bk 32 t.val) 2 (off62_2_eq t) _
set_option synthInstance.maxSize 4096 in
/-- The computed address of anchor 3's cell in the step's group. -/
theorem off68_eq : ∀ t : Fin grid0.N, k0_off68 (grid0.coords t) = ![(Ring.sl 2 t.val).val, 3] := by decide +kernel
@[sl_canon] theorem off68_at (t : Fin grid0.N) :
    (cc0_scratch1.slice (Rect.unit (s := S2x6) (k0_off68 (grid0.coords t)) S1x1.size (k0_off68_inb (grid0.coords t)))).squeeze S_ squeezes_S1x1_S_ = cellA (Ring.sl 2 t.val) 3 :=
  cell_of (Ring.sl 2 t.val) 3 (off68_eq t) _
@[sl_canon] theorem off68_at' (t : Fin grid0.N) :
    (cc0_scratch1.slice (Rect.unit (s := S2x6) (k0_off68 (grid0.coords t)) ![1, 1] (k0_off68_inb (grid0.coords t)))).squeeze S_ squeezes_S1x1_S_ = cellA (Ring.sl 2 t.val) 3 :=
  cell_of (Ring.sl 2 t.val) 3 (off68_eq t) _
set_option synthInstance.maxSize 4096 in
/-- The computed address of anchor 3's tile in the step's group. -/
theorem off69_eq : ∀ t : Fin grid0.N, k0_off69 (grid0.coords t) = ![(Ring.sl 2 t.val).val, 3, 0, 0, 0] := by decide +kernel
@[sl_canon] theorem off69_at (t : Fin grid0.N) :
    (scratch.slice (Rect.unit (s := S2x6x85x8x256) (k0_off69 (grid0.coords t)) S1x1x85x8x256.size (k0_off69_inb (grid0.coords t))) (fun _ => rfl)).squeeze S85x8x256 squeezes_S1x1x85x8x256_S85x8x256 = tile (Ring.sl 2 t.val) 3 :=
  tile_of (Ring.sl 2 t.val) 3 (off69_eq t) _
@[sl_canon] theorem off69_at' (t : Fin grid0.N) :
    (scratch.slice (Rect.unit (s := S2x6x85x8x256) (k0_off69 (grid0.coords t)) ![1, 1, 85, 8, 256] (k0_off69_inb (grid0.coords t))) (fun _ => rfl)).squeeze S85x8x256 squeezes_S1x1x85x8x256_S85x8x256 = tile (Ring.sl 2 t.val) 3 :=
  tile_of (Ring.sl 2 t.val) 3 (off69_eq t) _
set_option synthInstance.maxSize 4096 in
/-- The computed address of the step's piece. -/
theorem off62_3_eq : ∀ t : Fin grid0.N, k0_off62 (grid0.coords t) 12288#32 = ![0, 8 * ((Ring.bk 32 t.val).val / 16), 256 * ((Ring.bk 32 t.val).val % 16) + 4096 * 3] := by decide +kernel
@[sl_canon] theorem off62_3_at (t : Fin grid0.N) :
    result.slice (Rect.unit (s := S85x16x24576) (k0_off62 (grid0.coords t) 12288#32) S85x8x256.size (k0_off62_inb (grid0.coords t) 3)) (fun _ => rfl) = piece (Ring.bk 32 t.val) 3 :=
  piece_of (Ring.bk 32 t.val) 3 (off62_3_eq t) _
@[sl_canon] theorem off62_3_at' (t : Fin grid0.N) :
    result.slice (Rect.unit (s := S85x16x24576) (k0_off62 (grid0.coords t) 12288#32) ![85, 8, 256] (k0_off62_inb (grid0.coords t) 3)) (fun _ => rfl) = piece (Ring.bk 32 t.val) 3 :=
  piece_of (Ring.bk 32 t.val) 3 (off62_3_eq t) _
set_option synthInstance.maxSize 4096 in
/-- The computed address of anchor 4's cell in the step's group. -/
theorem off70_eq : ∀ t : Fin grid0.N, k0_off70 (grid0.coords t) = ![(Ring.sl 2 t.val).val, 4] := by decide +kernel
@[sl_canon] theorem off70_at (t : Fin grid0.N) :
    (cc0_scratch1.slice (Rect.unit (s := S2x6) (k0_off70 (grid0.coords t)) S1x1.size (k0_off70_inb (grid0.coords t)))).squeeze S_ squeezes_S1x1_S_ = cellA (Ring.sl 2 t.val) 4 :=
  cell_of (Ring.sl 2 t.val) 4 (off70_eq t) _
@[sl_canon] theorem off70_at' (t : Fin grid0.N) :
    (cc0_scratch1.slice (Rect.unit (s := S2x6) (k0_off70 (grid0.coords t)) ![1, 1] (k0_off70_inb (grid0.coords t)))).squeeze S_ squeezes_S1x1_S_ = cellA (Ring.sl 2 t.val) 4 :=
  cell_of (Ring.sl 2 t.val) 4 (off70_eq t) _
set_option synthInstance.maxSize 4096 in
/-- The computed address of anchor 4's tile in the step's group. -/
theorem off71_eq : ∀ t : Fin grid0.N, k0_off71 (grid0.coords t) = ![(Ring.sl 2 t.val).val, 4, 0, 0, 0] := by decide +kernel
@[sl_canon] theorem off71_at (t : Fin grid0.N) :
    (scratch.slice (Rect.unit (s := S2x6x85x8x256) (k0_off71 (grid0.coords t)) S1x1x85x8x256.size (k0_off71_inb (grid0.coords t))) (fun _ => rfl)).squeeze S85x8x256 squeezes_S1x1x85x8x256_S85x8x256 = tile (Ring.sl 2 t.val) 4 :=
  tile_of (Ring.sl 2 t.val) 4 (off71_eq t) _
@[sl_canon] theorem off71_at' (t : Fin grid0.N) :
    (scratch.slice (Rect.unit (s := S2x6x85x8x256) (k0_off71 (grid0.coords t)) ![1, 1, 85, 8, 256] (k0_off71_inb (grid0.coords t))) (fun _ => rfl)).squeeze S85x8x256 squeezes_S1x1x85x8x256_S85x8x256 = tile (Ring.sl 2 t.val) 4 :=
  tile_of (Ring.sl 2 t.val) 4 (off71_eq t) _
set_option synthInstance.maxSize 4096 in
/-- The computed address of the step's piece. -/
theorem off62_4_eq : ∀ t : Fin grid0.N, k0_off62 (grid0.coords t) 16384#32 = ![0, 8 * ((Ring.bk 32 t.val).val / 16), 256 * ((Ring.bk 32 t.val).val % 16) + 4096 * 4] := by decide +kernel
@[sl_canon] theorem off62_4_at (t : Fin grid0.N) :
    result.slice (Rect.unit (s := S85x16x24576) (k0_off62 (grid0.coords t) 16384#32) S85x8x256.size (k0_off62_inb (grid0.coords t) 4)) (fun _ => rfl) = piece (Ring.bk 32 t.val) 4 :=
  piece_of (Ring.bk 32 t.val) 4 (off62_4_eq t) _
@[sl_canon] theorem off62_4_at' (t : Fin grid0.N) :
    result.slice (Rect.unit (s := S85x16x24576) (k0_off62 (grid0.coords t) 16384#32) ![85, 8, 256] (k0_off62_inb (grid0.coords t) 4)) (fun _ => rfl) = piece (Ring.bk 32 t.val) 4 :=
  piece_of (Ring.bk 32 t.val) 4 (off62_4_eq t) _
set_option synthInstance.maxSize 4096 in
/-- The computed address of anchor 5's cell in the step's group. -/
theorem off72_eq : ∀ t : Fin grid0.N, k0_off72 (grid0.coords t) = ![(Ring.sl 2 t.val).val, 5] := by decide +kernel
@[sl_canon] theorem off72_at (t : Fin grid0.N) :
    (cc0_scratch1.slice (Rect.unit (s := S2x6) (k0_off72 (grid0.coords t)) S1x1.size (k0_off72_inb (grid0.coords t)))).squeeze S_ squeezes_S1x1_S_ = cellA (Ring.sl 2 t.val) 5 :=
  cell_of (Ring.sl 2 t.val) 5 (off72_eq t) _
@[sl_canon] theorem off72_at' (t : Fin grid0.N) :
    (cc0_scratch1.slice (Rect.unit (s := S2x6) (k0_off72 (grid0.coords t)) ![1, 1] (k0_off72_inb (grid0.coords t)))).squeeze S_ squeezes_S1x1_S_ = cellA (Ring.sl 2 t.val) 5 :=
  cell_of (Ring.sl 2 t.val) 5 (off72_eq t) _
set_option synthInstance.maxSize 4096 in
/-- The computed address of anchor 5's tile in the step's group. -/
theorem off73_eq : ∀ t : Fin grid0.N, k0_off73 (grid0.coords t) = ![(Ring.sl 2 t.val).val, 5, 0, 0, 0] := by decide +kernel
@[sl_canon] theorem off73_at (t : Fin grid0.N) :
    (scratch.slice (Rect.unit (s := S2x6x85x8x256) (k0_off73 (grid0.coords t)) S1x1x85x8x256.size (k0_off73_inb (grid0.coords t))) (fun _ => rfl)).squeeze S85x8x256 squeezes_S1x1x85x8x256_S85x8x256 = tile (Ring.sl 2 t.val) 5 :=
  tile_of (Ring.sl 2 t.val) 5 (off73_eq t) _
@[sl_canon] theorem off73_at' (t : Fin grid0.N) :
    (scratch.slice (Rect.unit (s := S2x6x85x8x256) (k0_off73 (grid0.coords t)) ![1, 1, 85, 8, 256] (k0_off73_inb (grid0.coords t))) (fun _ => rfl)).squeeze S85x8x256 squeezes_S1x1x85x8x256_S85x8x256 = tile (Ring.sl 2 t.val) 5 :=
  tile_of (Ring.sl 2 t.val) 5 (off73_eq t) _
set_option synthInstance.maxSize 4096 in
/-- The computed address of the step's piece. -/
theorem off62_5_eq : ∀ t : Fin grid0.N, k0_off62 (grid0.coords t) 20480#32 = ![0, 8 * ((Ring.bk 32 t.val).val / 16), 256 * ((Ring.bk 32 t.val).val % 16) + 4096 * 5] := by decide +kernel
@[sl_canon] theorem off62_5_at (t : Fin grid0.N) :
    result.slice (Rect.unit (s := S85x16x24576) (k0_off62 (grid0.coords t) 20480#32) S85x8x256.size (k0_off62_inb (grid0.coords t) 5)) (fun _ => rfl) = piece (Ring.bk 32 t.val) 5 :=
  piece_of (Ring.bk 32 t.val) 5 (off62_5_eq t) _
@[sl_canon] theorem off62_5_at' (t : Fin grid0.N) :
    result.slice (Rect.unit (s := S85x16x24576) (k0_off62 (grid0.coords t) 20480#32) ![85, 8, 256] (k0_off62_inb (grid0.coords t) 5)) (fun _ => rfl) = piece (Ring.bk 32 t.val) 5 :=
  piece_of (Ring.bk 32 t.val) 5 (off62_5_eq t) _
set_option synthInstance.maxSize 4096 in
/-- The computed address of anchor 0's cell in the step's group. -/
theorem off1_eq : ∀ t : Fin grid0.N, k0_off1 (grid0.coords t) = ![(Ring.sl 2 t.val).val, 0] := by decide +kernel
@[sl_canon] theorem off1_at (t : Fin grid0.N) (h0 : waits (grid0.coords t)) :
    (cc0_scratch1.slice (Rect.unit (s := S2x6) (k0_off1 (grid0.coords t)) S1x1.size (k0_off1_inb (grid0.coords t) h0))).squeeze S_ squeezes_S1x1_S_ = cellA (Ring.sl 2 t.val) 0 :=
  cell_of (Ring.sl 2 t.val) 0 (off1_eq t) _
@[sl_canon] theorem off1_at' (t : Fin grid0.N) (h0 : waits (grid0.coords t)) :
    (cc0_scratch1.slice (Rect.unit (s := S2x6) (k0_off1 (grid0.coords t)) ![1, 1] (k0_off1_inb (grid0.coords t) h0))).squeeze S_ squeezes_S1x1_S_ = cellA (Ring.sl 2 t.val) 0 :=
  cell_of (Ring.sl 2 t.val) 0 (off1_eq t) _
set_option synthInstance.maxSize 4096 in
/-- The computed address of anchor 0's tile in the step's group. -/
theorem off2_eq : ∀ t : Fin grid0.N, k0_off2 (grid0.coords t) = ![(Ring.sl 2 t.val).val, 0, 0, 0, 0] := by decide +kernel
@[sl_canon] theorem off2_at (t : Fin grid0.N) (h0 : waits (grid0.coords t)) :
    (scratch.slice (Rect.unit (s := S2x6x85x8x256) (k0_off2 (grid0.coords t)) S1x1x85x8x256.size (k0_off2_inb (grid0.coords t) h0)) (fun _ => rfl)).squeeze S85x8x256 squeezes_S1x1x85x8x256_S85x8x256 = tile (Ring.sl 2 t.val) 0 :=
  tile_of (Ring.sl 2 t.val) 0 (off2_eq t) _
@[sl_canon] theorem off2_at' (t : Fin grid0.N) (h0 : waits (grid0.coords t)) :
    (scratch.slice (Rect.unit (s := S2x6x85x8x256) (k0_off2 (grid0.coords t)) ![1, 1, 85, 8, 256] (k0_off2_inb (grid0.coords t) h0)) (fun _ => rfl)).squeeze S85x8x256 squeezes_S1x1x85x8x256_S85x8x256 = tile (Ring.sl 2 t.val) 0 :=
  tile_of (Ring.sl 2 t.val) 0 (off2_eq t) _
set_option synthInstance.maxSize 4096 in
/-- The computed address of anchor 1's cell in the step's group. -/
theorem off3_eq : ∀ t : Fin grid0.N, k0_off3 (grid0.coords t) = ![(Ring.sl 2 t.val).val, 1] := by decide +kernel
@[sl_canon] theorem off3_at (t : Fin grid0.N) (h0 : waits (grid0.coords t)) :
    (cc0_scratch1.slice (Rect.unit (s := S2x6) (k0_off3 (grid0.coords t)) S1x1.size (k0_off3_inb (grid0.coords t) h0))).squeeze S_ squeezes_S1x1_S_ = cellA (Ring.sl 2 t.val) 1 :=
  cell_of (Ring.sl 2 t.val) 1 (off3_eq t) _
@[sl_canon] theorem off3_at' (t : Fin grid0.N) (h0 : waits (grid0.coords t)) :
    (cc0_scratch1.slice (Rect.unit (s := S2x6) (k0_off3 (grid0.coords t)) ![1, 1] (k0_off3_inb (grid0.coords t) h0))).squeeze S_ squeezes_S1x1_S_ = cellA (Ring.sl 2 t.val) 1 :=
  cell_of (Ring.sl 2 t.val) 1 (off3_eq t) _
set_option synthInstance.maxSize 4096 in
/-- The computed address of anchor 1's tile in the step's group. -/
theorem off4_eq : ∀ t : Fin grid0.N, k0_off4 (grid0.coords t) = ![(Ring.sl 2 t.val).val, 1, 0, 0, 0] := by decide +kernel
@[sl_canon] theorem off4_at (t : Fin grid0.N) (h0 : waits (grid0.coords t)) :
    (scratch.slice (Rect.unit (s := S2x6x85x8x256) (k0_off4 (grid0.coords t)) S1x1x85x8x256.size (k0_off4_inb (grid0.coords t) h0)) (fun _ => rfl)).squeeze S85x8x256 squeezes_S1x1x85x8x256_S85x8x256 = tile (Ring.sl 2 t.val) 1 :=
  tile_of (Ring.sl 2 t.val) 1 (off4_eq t) _
@[sl_canon] theorem off4_at' (t : Fin grid0.N) (h0 : waits (grid0.coords t)) :
    (scratch.slice (Rect.unit (s := S2x6x85x8x256) (k0_off4 (grid0.coords t)) ![1, 1, 85, 8, 256] (k0_off4_inb (grid0.coords t) h0)) (fun _ => rfl)).squeeze S85x8x256 squeezes_S1x1x85x8x256_S85x8x256 = tile (Ring.sl 2 t.val) 1 :=
  tile_of (Ring.sl 2 t.val) 1 (off4_eq t) _
set_option synthInstance.maxSize 4096 in
/-- The computed address of anchor 2's cell in the step's group. -/
theorem off5_eq : ∀ t : Fin grid0.N, k0_off5 (grid0.coords t) = ![(Ring.sl 2 t.val).val, 2] := by decide +kernel
@[sl_canon] theorem off5_at (t : Fin grid0.N) (h0 : waits (grid0.coords t)) :
    (cc0_scratch1.slice (Rect.unit (s := S2x6) (k0_off5 (grid0.coords t)) S1x1.size (k0_off5_inb (grid0.coords t) h0))).squeeze S_ squeezes_S1x1_S_ = cellA (Ring.sl 2 t.val) 2 :=
  cell_of (Ring.sl 2 t.val) 2 (off5_eq t) _
@[sl_canon] theorem off5_at' (t : Fin grid0.N) (h0 : waits (grid0.coords t)) :
    (cc0_scratch1.slice (Rect.unit (s := S2x6) (k0_off5 (grid0.coords t)) ![1, 1] (k0_off5_inb (grid0.coords t) h0))).squeeze S_ squeezes_S1x1_S_ = cellA (Ring.sl 2 t.val) 2 :=
  cell_of (Ring.sl 2 t.val) 2 (off5_eq t) _
set_option synthInstance.maxSize 4096 in
/-- The computed address of anchor 2's tile in the step's group. -/
theorem off6_eq : ∀ t : Fin grid0.N, k0_off6 (grid0.coords t) = ![(Ring.sl 2 t.val).val, 2, 0, 0, 0] := by decide +kernel
@[sl_canon] theorem off6_at (t : Fin grid0.N) (h0 : waits (grid0.coords t)) :
    (scratch.slice (Rect.unit (s := S2x6x85x8x256) (k0_off6 (grid0.coords t)) S1x1x85x8x256.size (k0_off6_inb (grid0.coords t) h0)) (fun _ => rfl)).squeeze S85x8x256 squeezes_S1x1x85x8x256_S85x8x256 = tile (Ring.sl 2 t.val) 2 :=
  tile_of (Ring.sl 2 t.val) 2 (off6_eq t) _
@[sl_canon] theorem off6_at' (t : Fin grid0.N) (h0 : waits (grid0.coords t)) :
    (scratch.slice (Rect.unit (s := S2x6x85x8x256) (k0_off6 (grid0.coords t)) ![1, 1, 85, 8, 256] (k0_off6_inb (grid0.coords t) h0)) (fun _ => rfl)).squeeze S85x8x256 squeezes_S1x1x85x8x256_S85x8x256 = tile (Ring.sl 2 t.val) 2 :=
  tile_of (Ring.sl 2 t.val) 2 (off6_eq t) _
set_option synthInstance.maxSize 4096 in
/-- The computed address of anchor 3's cell in the step's group. -/
theorem off7_eq : ∀ t : Fin grid0.N, k0_off7 (grid0.coords t) = ![(Ring.sl 2 t.val).val, 3] := by decide +kernel
@[sl_canon] theorem off7_at (t : Fin grid0.N) (h0 : waits (grid0.coords t)) :
    (cc0_scratch1.slice (Rect.unit (s := S2x6) (k0_off7 (grid0.coords t)) S1x1.size (k0_off7_inb (grid0.coords t) h0))).squeeze S_ squeezes_S1x1_S_ = cellA (Ring.sl 2 t.val) 3 :=
  cell_of (Ring.sl 2 t.val) 3 (off7_eq t) _
@[sl_canon] theorem off7_at' (t : Fin grid0.N) (h0 : waits (grid0.coords t)) :
    (cc0_scratch1.slice (Rect.unit (s := S2x6) (k0_off7 (grid0.coords t)) ![1, 1] (k0_off7_inb (grid0.coords t) h0))).squeeze S_ squeezes_S1x1_S_ = cellA (Ring.sl 2 t.val) 3 :=
  cell_of (Ring.sl 2 t.val) 3 (off7_eq t) _
set_option synthInstance.maxSize 4096 in
/-- The computed address of anchor 3's tile in the step's group. -/
theorem off8_eq : ∀ t : Fin grid0.N, k0_off8 (grid0.coords t) = ![(Ring.sl 2 t.val).val, 3, 0, 0, 0] := by decide +kernel
@[sl_canon] theorem off8_at (t : Fin grid0.N) (h0 : waits (grid0.coords t)) :
    (scratch.slice (Rect.unit (s := S2x6x85x8x256) (k0_off8 (grid0.coords t)) S1x1x85x8x256.size (k0_off8_inb (grid0.coords t) h0)) (fun _ => rfl)).squeeze S85x8x256 squeezes_S1x1x85x8x256_S85x8x256 = tile (Ring.sl 2 t.val) 3 :=
  tile_of (Ring.sl 2 t.val) 3 (off8_eq t) _
@[sl_canon] theorem off8_at' (t : Fin grid0.N) (h0 : waits (grid0.coords t)) :
    (scratch.slice (Rect.unit (s := S2x6x85x8x256) (k0_off8 (grid0.coords t)) ![1, 1, 85, 8, 256] (k0_off8_inb (grid0.coords t) h0)) (fun _ => rfl)).squeeze S85x8x256 squeezes_S1x1x85x8x256_S85x8x256 = tile (Ring.sl 2 t.val) 3 :=
  tile_of (Ring.sl 2 t.val) 3 (off8_eq t) _
set_option synthInstance.maxSize 4096 in
/-- The computed address of anchor 4's cell in the step's group. -/
theorem off9_eq : ∀ t : Fin grid0.N, k0_off9 (grid0.coords t) = ![(Ring.sl 2 t.val).val, 4] := by decide +kernel
@[sl_canon] theorem off9_at (t : Fin grid0.N) (h0 : waits (grid0.coords t)) :
    (cc0_scratch1.slice (Rect.unit (s := S2x6) (k0_off9 (grid0.coords t)) S1x1.size (k0_off9_inb (grid0.coords t) h0))).squeeze S_ squeezes_S1x1_S_ = cellA (Ring.sl 2 t.val) 4 :=
  cell_of (Ring.sl 2 t.val) 4 (off9_eq t) _
@[sl_canon] theorem off9_at' (t : Fin grid0.N) (h0 : waits (grid0.coords t)) :
    (cc0_scratch1.slice (Rect.unit (s := S2x6) (k0_off9 (grid0.coords t)) ![1, 1] (k0_off9_inb (grid0.coords t) h0))).squeeze S_ squeezes_S1x1_S_ = cellA (Ring.sl 2 t.val) 4 :=
  cell_of (Ring.sl 2 t.val) 4 (off9_eq t) _
set_option synthInstance.maxSize 4096 in
/-- The computed address of anchor 4's tile in the step's group. -/
theorem off10_eq : ∀ t : Fin grid0.N, k0_off10 (grid0.coords t) = ![(Ring.sl 2 t.val).val, 4, 0, 0, 0] := by decide +kernel
@[sl_canon] theorem off10_at (t : Fin grid0.N) (h0 : waits (grid0.coords t)) :
    (scratch.slice (Rect.unit (s := S2x6x85x8x256) (k0_off10 (grid0.coords t)) S1x1x85x8x256.size (k0_off10_inb (grid0.coords t) h0)) (fun _ => rfl)).squeeze S85x8x256 squeezes_S1x1x85x8x256_S85x8x256 = tile (Ring.sl 2 t.val) 4 :=
  tile_of (Ring.sl 2 t.val) 4 (off10_eq t) _
@[sl_canon] theorem off10_at' (t : Fin grid0.N) (h0 : waits (grid0.coords t)) :
    (scratch.slice (Rect.unit (s := S2x6x85x8x256) (k0_off10 (grid0.coords t)) ![1, 1, 85, 8, 256] (k0_off10_inb (grid0.coords t) h0)) (fun _ => rfl)).squeeze S85x8x256 squeezes_S1x1x85x8x256_S85x8x256 = tile (Ring.sl 2 t.val) 4 :=
  tile_of (Ring.sl 2 t.val) 4 (off10_eq t) _
set_option synthInstance.maxSize 4096 in
/-- The computed address of anchor 5's cell in the step's group. -/
theorem off11_eq : ∀ t : Fin grid0.N, k0_off11 (grid0.coords t) = ![(Ring.sl 2 t.val).val, 5] := by decide +kernel
@[sl_canon] theorem off11_at (t : Fin grid0.N) (h0 : waits (grid0.coords t)) :
    (cc0_scratch1.slice (Rect.unit (s := S2x6) (k0_off11 (grid0.coords t)) S1x1.size (k0_off11_inb (grid0.coords t) h0))).squeeze S_ squeezes_S1x1_S_ = cellA (Ring.sl 2 t.val) 5 :=
  cell_of (Ring.sl 2 t.val) 5 (off11_eq t) _
@[sl_canon] theorem off11_at' (t : Fin grid0.N) (h0 : waits (grid0.coords t)) :
    (cc0_scratch1.slice (Rect.unit (s := S2x6) (k0_off11 (grid0.coords t)) ![1, 1] (k0_off11_inb (grid0.coords t) h0))).squeeze S_ squeezes_S1x1_S_ = cellA (Ring.sl 2 t.val) 5 :=
  cell_of (Ring.sl 2 t.val) 5 (off11_eq t) _
set_option synthInstance.maxSize 4096 in
/-- The computed address of anchor 5's tile in the step's group. -/
theorem off12_eq : ∀ t : Fin grid0.N, k0_off12 (grid0.coords t) = ![(Ring.sl 2 t.val).val, 5, 0, 0, 0] := by decide +kernel
@[sl_canon] theorem off12_at (t : Fin grid0.N) (h0 : waits (grid0.coords t)) :
    (scratch.slice (Rect.unit (s := S2x6x85x8x256) (k0_off12 (grid0.coords t)) S1x1x85x8x256.size (k0_off12_inb (grid0.coords t) h0)) (fun _ => rfl)).squeeze S85x8x256 squeezes_S1x1x85x8x256_S85x8x256 = tile (Ring.sl 2 t.val) 5 :=
  tile_of (Ring.sl 2 t.val) 5 (off12_eq t) _
@[sl_canon] theorem off12_at' (t : Fin grid0.N) (h0 : waits (grid0.coords t)) :
    (scratch.slice (Rect.unit (s := S2x6x85x8x256) (k0_off12 (grid0.coords t)) ![1, 1, 85, 8, 256] (k0_off12_inb (grid0.coords t) h0)) (fun _ => rfl)).squeeze S85x8x256 squeezes_S1x1x85x8x256_S85x8x256 = tile (Ring.sl 2 t.val) 5 :=
  tile_of (Ring.sl 2 t.val) 5 (off12_eq t) _
set_option synthInstance.maxSize 4096 in
/-- The computed address of anchor 0's cell in the next step's group. -/
theorem off74_eq : ∀ t : Fin grid0.N, k0_off74 (grid0.coords t) = ![(Ring.sl 2 (t.val + 1)).val, 0] := by decide +kernel
@[sl_canon] theorem off74_at (t : Fin grid0.N) (h1 : drains (grid0.coords t)) :
    (cc0_scratch1.slice (Rect.unit (s := S2x6) (k0_off74 (grid0.coords t)) S1x1.size (k0_off74_inb (grid0.coords t) h1))).squeeze S_ squeezes_S1x1_S_ = cellA (Ring.sl 2 (t.val + 1)) 0 :=
  cell_of (Ring.sl 2 (t.val + 1)) 0 (off74_eq t) _
@[sl_canon] theorem off74_at' (t : Fin grid0.N) (h1 : drains (grid0.coords t)) :
    (cc0_scratch1.slice (Rect.unit (s := S2x6) (k0_off74 (grid0.coords t)) ![1, 1] (k0_off74_inb (grid0.coords t) h1))).squeeze S_ squeezes_S1x1_S_ = cellA (Ring.sl 2 (t.val + 1)) 0 :=
  cell_of (Ring.sl 2 (t.val + 1)) 0 (off74_eq t) _
set_option synthInstance.maxSize 4096 in
/-- The computed address of anchor 0's tile in the next step's group. -/
theorem off75_eq : ∀ t : Fin grid0.N, k0_off75 (grid0.coords t) = ![(Ring.sl 2 (t.val + 1)).val, 0, 0, 0, 0] := by decide +kernel
@[sl_canon] theorem off75_at (t : Fin grid0.N) (h1 : drains (grid0.coords t)) :
    (scratch.slice (Rect.unit (s := S2x6x85x8x256) (k0_off75 (grid0.coords t)) S1x1x85x8x256.size (k0_off75_inb (grid0.coords t) h1)) (fun _ => rfl)).squeeze S85x8x256 squeezes_S1x1x85x8x256_S85x8x256 = tile (Ring.sl 2 (t.val + 1)) 0 :=
  tile_of (Ring.sl 2 (t.val + 1)) 0 (off75_eq t) _
@[sl_canon] theorem off75_at' (t : Fin grid0.N) (h1 : drains (grid0.coords t)) :
    (scratch.slice (Rect.unit (s := S2x6x85x8x256) (k0_off75 (grid0.coords t)) ![1, 1, 85, 8, 256] (k0_off75_inb (grid0.coords t) h1)) (fun _ => rfl)).squeeze S85x8x256 squeezes_S1x1x85x8x256_S85x8x256 = tile (Ring.sl 2 (t.val + 1)) 0 :=
  tile_of (Ring.sl 2 (t.val + 1)) 0 (off75_eq t) _
set_option synthInstance.maxSize 4096 in
/-- The computed address of anchor 1's cell in the next step's group. -/
theorem off76_eq : ∀ t : Fin grid0.N, k0_off76 (grid0.coords t) = ![(Ring.sl 2 (t.val + 1)).val, 1] := by decide +kernel
@[sl_canon] theorem off76_at (t : Fin grid0.N) (h1 : drains (grid0.coords t)) :
    (cc0_scratch1.slice (Rect.unit (s := S2x6) (k0_off76 (grid0.coords t)) S1x1.size (k0_off76_inb (grid0.coords t) h1))).squeeze S_ squeezes_S1x1_S_ = cellA (Ring.sl 2 (t.val + 1)) 1 :=
  cell_of (Ring.sl 2 (t.val + 1)) 1 (off76_eq t) _
@[sl_canon] theorem off76_at' (t : Fin grid0.N) (h1 : drains (grid0.coords t)) :
    (cc0_scratch1.slice (Rect.unit (s := S2x6) (k0_off76 (grid0.coords t)) ![1, 1] (k0_off76_inb (grid0.coords t) h1))).squeeze S_ squeezes_S1x1_S_ = cellA (Ring.sl 2 (t.val + 1)) 1 :=
  cell_of (Ring.sl 2 (t.val + 1)) 1 (off76_eq t) _
set_option synthInstance.maxSize 4096 in
/-- The computed address of anchor 1's tile in the next step's group. -/
theorem off77_eq : ∀ t : Fin grid0.N, k0_off77 (grid0.coords t) = ![(Ring.sl 2 (t.val + 1)).val, 1, 0, 0, 0] := by decide +kernel
@[sl_canon] theorem off77_at (t : Fin grid0.N) (h1 : drains (grid0.coords t)) :
    (scratch.slice (Rect.unit (s := S2x6x85x8x256) (k0_off77 (grid0.coords t)) S1x1x85x8x256.size (k0_off77_inb (grid0.coords t) h1)) (fun _ => rfl)).squeeze S85x8x256 squeezes_S1x1x85x8x256_S85x8x256 = tile (Ring.sl 2 (t.val + 1)) 1 :=
  tile_of (Ring.sl 2 (t.val + 1)) 1 (off77_eq t) _
@[sl_canon] theorem off77_at' (t : Fin grid0.N) (h1 : drains (grid0.coords t)) :
    (scratch.slice (Rect.unit (s := S2x6x85x8x256) (k0_off77 (grid0.coords t)) ![1, 1, 85, 8, 256] (k0_off77_inb (grid0.coords t) h1)) (fun _ => rfl)).squeeze S85x8x256 squeezes_S1x1x85x8x256_S85x8x256 = tile (Ring.sl 2 (t.val + 1)) 1 :=
  tile_of (Ring.sl 2 (t.val + 1)) 1 (off77_eq t) _
set_option synthInstance.maxSize 4096 in
/-- The computed address of anchor 2's cell in the next step's group. -/
theorem off78_eq : ∀ t : Fin grid0.N, k0_off78 (grid0.coords t) = ![(Ring.sl 2 (t.val + 1)).val, 2] := by decide +kernel
@[sl_canon] theorem off78_at (t : Fin grid0.N) (h1 : drains (grid0.coords t)) :
    (cc0_scratch1.slice (Rect.unit (s := S2x6) (k0_off78 (grid0.coords t)) S1x1.size (k0_off78_inb (grid0.coords t) h1))).squeeze S_ squeezes_S1x1_S_ = cellA (Ring.sl 2 (t.val + 1)) 2 :=
  cell_of (Ring.sl 2 (t.val + 1)) 2 (off78_eq t) _
@[sl_canon] theorem off78_at' (t : Fin grid0.N) (h1 : drains (grid0.coords t)) :
    (cc0_scratch1.slice (Rect.unit (s := S2x6) (k0_off78 (grid0.coords t)) ![1, 1] (k0_off78_inb (grid0.coords t) h1))).squeeze S_ squeezes_S1x1_S_ = cellA (Ring.sl 2 (t.val + 1)) 2 :=
  cell_of (Ring.sl 2 (t.val + 1)) 2 (off78_eq t) _
set_option synthInstance.maxSize 4096 in
/-- The computed address of anchor 2's tile in the next step's group. -/
theorem off79_eq : ∀ t : Fin grid0.N, k0_off79 (grid0.coords t) = ![(Ring.sl 2 (t.val + 1)).val, 2, 0, 0, 0] := by decide +kernel
@[sl_canon] theorem off79_at (t : Fin grid0.N) (h1 : drains (grid0.coords t)) :
    (scratch.slice (Rect.unit (s := S2x6x85x8x256) (k0_off79 (grid0.coords t)) S1x1x85x8x256.size (k0_off79_inb (grid0.coords t) h1)) (fun _ => rfl)).squeeze S85x8x256 squeezes_S1x1x85x8x256_S85x8x256 = tile (Ring.sl 2 (t.val + 1)) 2 :=
  tile_of (Ring.sl 2 (t.val + 1)) 2 (off79_eq t) _
@[sl_canon] theorem off79_at' (t : Fin grid0.N) (h1 : drains (grid0.coords t)) :
    (scratch.slice (Rect.unit (s := S2x6x85x8x256) (k0_off79 (grid0.coords t)) ![1, 1, 85, 8, 256] (k0_off79_inb (grid0.coords t) h1)) (fun _ => rfl)).squeeze S85x8x256 squeezes_S1x1x85x8x256_S85x8x256 = tile (Ring.sl 2 (t.val + 1)) 2 :=
  tile_of (Ring.sl 2 (t.val + 1)) 2 (off79_eq t) _
set_option synthInstance.maxSize 4096 in
/-- The computed address of anchor 3's cell in the next step's group. -/
theorem off80_eq : ∀ t : Fin grid0.N, k0_off80 (grid0.coords t) = ![(Ring.sl 2 (t.val + 1)).val, 3] := by decide +kernel
@[sl_canon] theorem off80_at (t : Fin grid0.N) (h1 : drains (grid0.coords t)) :
    (cc0_scratch1.slice (Rect.unit (s := S2x6) (k0_off80 (grid0.coords t)) S1x1.size (k0_off80_inb (grid0.coords t) h1))).squeeze S_ squeezes_S1x1_S_ = cellA (Ring.sl 2 (t.val + 1)) 3 :=
  cell_of (Ring.sl 2 (t.val + 1)) 3 (off80_eq t) _
@[sl_canon] theorem off80_at' (t : Fin grid0.N) (h1 : drains (grid0.coords t)) :
    (cc0_scratch1.slice (Rect.unit (s := S2x6) (k0_off80 (grid0.coords t)) ![1, 1] (k0_off80_inb (grid0.coords t) h1))).squeeze S_ squeezes_S1x1_S_ = cellA (Ring.sl 2 (t.val + 1)) 3 :=
  cell_of (Ring.sl 2 (t.val + 1)) 3 (off80_eq t) _
set_option synthInstance.maxSize 4096 in
/-- The computed address of anchor 3's tile in the next step's group. -/
theorem off81_eq : ∀ t : Fin grid0.N, k0_off81 (grid0.coords t) = ![(Ring.sl 2 (t.val + 1)).val, 3, 0, 0, 0] := by decide +kernel
@[sl_canon] theorem off81_at (t : Fin grid0.N) (h1 : drains (grid0.coords t)) :
    (scratch.slice (Rect.unit (s := S2x6x85x8x256) (k0_off81 (grid0.coords t)) S1x1x85x8x256.size (k0_off81_inb (grid0.coords t) h1)) (fun _ => rfl)).squeeze S85x8x256 squeezes_S1x1x85x8x256_S85x8x256 = tile (Ring.sl 2 (t.val + 1)) 3 :=
  tile_of (Ring.sl 2 (t.val + 1)) 3 (off81_eq t) _
@[sl_canon] theorem off81_at' (t : Fin grid0.N) (h1 : drains (grid0.coords t)) :
    (scratch.slice (Rect.unit (s := S2x6x85x8x256) (k0_off81 (grid0.coords t)) ![1, 1, 85, 8, 256] (k0_off81_inb (grid0.coords t) h1)) (fun _ => rfl)).squeeze S85x8x256 squeezes_S1x1x85x8x256_S85x8x256 = tile (Ring.sl 2 (t.val + 1)) 3 :=
  tile_of (Ring.sl 2 (t.val + 1)) 3 (off81_eq t) _
set_option synthInstance.maxSize 4096 in
/-- The computed address of anchor 4's cell in the next step's group. -/
theorem off82_eq : ∀ t : Fin grid0.N, k0_off82 (grid0.coords t) = ![(Ring.sl 2 (t.val + 1)).val, 4] := by decide +kernel
@[sl_canon] theorem off82_at (t : Fin grid0.N) (h1 : drains (grid0.coords t)) :
    (cc0_scratch1.slice (Rect.unit (s := S2x6) (k0_off82 (grid0.coords t)) S1x1.size (k0_off82_inb (grid0.coords t) h1))).squeeze S_ squeezes_S1x1_S_ = cellA (Ring.sl 2 (t.val + 1)) 4 :=
  cell_of (Ring.sl 2 (t.val + 1)) 4 (off82_eq t) _
@[sl_canon] theorem off82_at' (t : Fin grid0.N) (h1 : drains (grid0.coords t)) :
    (cc0_scratch1.slice (Rect.unit (s := S2x6) (k0_off82 (grid0.coords t)) ![1, 1] (k0_off82_inb (grid0.coords t) h1))).squeeze S_ squeezes_S1x1_S_ = cellA (Ring.sl 2 (t.val + 1)) 4 :=
  cell_of (Ring.sl 2 (t.val + 1)) 4 (off82_eq t) _
set_option synthInstance.maxSize 4096 in
/-- The computed address of anchor 4's tile in the next step's group. -/
theorem off83_eq : ∀ t : Fin grid0.N, k0_off83 (grid0.coords t) = ![(Ring.sl 2 (t.val + 1)).val, 4, 0, 0, 0] := by decide +kernel
@[sl_canon] theorem off83_at (t : Fin grid0.N) (h1 : drains (grid0.coords t)) :
    (scratch.slice (Rect.unit (s := S2x6x85x8x256) (k0_off83 (grid0.coords t)) S1x1x85x8x256.size (k0_off83_inb (grid0.coords t) h1)) (fun _ => rfl)).squeeze S85x8x256 squeezes_S1x1x85x8x256_S85x8x256 = tile (Ring.sl 2 (t.val + 1)) 4 :=
  tile_of (Ring.sl 2 (t.val + 1)) 4 (off83_eq t) _
@[sl_canon] theorem off83_at' (t : Fin grid0.N) (h1 : drains (grid0.coords t)) :
    (scratch.slice (Rect.unit (s := S2x6x85x8x256) (k0_off83 (grid0.coords t)) ![1, 1, 85, 8, 256] (k0_off83_inb (grid0.coords t) h1)) (fun _ => rfl)).squeeze S85x8x256 squeezes_S1x1x85x8x256_S85x8x256 = tile (Ring.sl 2 (t.val + 1)) 4 :=
  tile_of (Ring.sl 2 (t.val + 1)) 4 (off83_eq t) _
set_option synthInstance.maxSize 4096 in
/-- The computed address of anchor 5's cell in the next step's group. -/
theorem off84_eq : ∀ t : Fin grid0.N, k0_off84 (grid0.coords t) = ![(Ring.sl 2 (t.val + 1)).val, 5] := by decide +kernel
@[sl_canon] theorem off84_at (t : Fin grid0.N) (h1 : drains (grid0.coords t)) :
    (cc0_scratch1.slice (Rect.unit (s := S2x6) (k0_off84 (grid0.coords t)) S1x1.size (k0_off84_inb (grid0.coords t) h1))).squeeze S_ squeezes_S1x1_S_ = cellA (Ring.sl 2 (t.val + 1)) 5 :=
  cell_of (Ring.sl 2 (t.val + 1)) 5 (off84_eq t) _
@[sl_canon] theorem off84_at' (t : Fin grid0.N) (h1 : drains (grid0.coords t)) :
    (cc0_scratch1.slice (Rect.unit (s := S2x6) (k0_off84 (grid0.coords t)) ![1, 1] (k0_off84_inb (grid0.coords t) h1))).squeeze S_ squeezes_S1x1_S_ = cellA (Ring.sl 2 (t.val + 1)) 5 :=
  cell_of (Ring.sl 2 (t.val + 1)) 5 (off84_eq t) _
set_option synthInstance.maxSize 4096 in
/-- The computed address of anchor 5's tile in the next step's group. -/
theorem off85_eq : ∀ t : Fin grid0.N, k0_off85 (grid0.coords t) = ![(Ring.sl 2 (t.val + 1)).val, 5, 0, 0, 0] := by decide +kernel
@[sl_canon] theorem off85_at (t : Fin grid0.N) (h1 : drains (grid0.coords t)) :
    (scratch.slice (Rect.unit (s := S2x6x85x8x256) (k0_off85 (grid0.coords t)) S1x1x85x8x256.size (k0_off85_inb (grid0.coords t) h1)) (fun _ => rfl)).squeeze S85x8x256 squeezes_S1x1x85x8x256_S85x8x256 = tile (Ring.sl 2 (t.val + 1)) 5 :=
  tile_of (Ring.sl 2 (t.val + 1)) 5 (off85_eq t) _
@[sl_canon] theorem off85_at' (t : Fin grid0.N) (h1 : drains (grid0.coords t)) :
    (scratch.slice (Rect.unit (s := S2x6x85x8x256) (k0_off85 (grid0.coords t)) ![1, 1, 85, 8, 256] (k0_off85_inb (grid0.coords t) h1)) (fun _ => rfl)).squeeze S85x8x256 squeezes_S1x1x85x8x256_S85x8x256 = tile (Ring.sl 2 (t.val + 1)) 5 :=
  tile_of (Ring.sl 2 (t.val + 1)) 5 (off85_eq t) _
set_option synthInstance.maxSize 4096 in
/-- The computed address of anchor 0's cell in the step's group. -/
theorem off86_eq : ∀ t : Fin grid0.N, k0_off86 (grid0.coords t) = ![(Ring.sl 2 t.val).val, 0] := by decide +kernel
@[sl_canon] theorem off86_at (t : Fin grid0.N) (h1 : drains (grid0.coords t)) :
    (cc0_scratch1.slice (Rect.unit (s := S2x6) (k0_off86 (grid0.coords t)) S1x1.size (k0_off86_inb (grid0.coords t) h1))).squeeze S_ squeezes_S1x1_S_ = cellA (Ring.sl 2 t.val) 0 :=
  cell_of (Ring.sl 2 t.val) 0 (off86_eq t) _
@[sl_canon] theorem off86_at' (t : Fin grid0.N) (h1 : drains (grid0.coords t)) :
    (cc0_scratch1.slice (Rect.unit (s := S2x6) (k0_off86 (grid0.coords t)) ![1, 1] (k0_off86_inb (grid0.coords t) h1))).squeeze S_ squeezes_S1x1_S_ = cellA (Ring.sl 2 t.val) 0 :=
  cell_of (Ring.sl 2 t.val) 0 (off86_eq t) _
set_option synthInstance.maxSize 4096 in
/-- The computed address of anchor 0's tile in the step's group. -/
theorem off87_eq : ∀ t : Fin grid0.N, k0_off87 (grid0.coords t) = ![(Ring.sl 2 t.val).val, 0, 0, 0, 0] := by decide +kernel
@[sl_canon] theorem off87_at (t : Fin grid0.N) (h1 : drains (grid0.coords t)) :
    (scratch.slice (Rect.unit (s := S2x6x85x8x256) (k0_off87 (grid0.coords t)) S1x1x85x8x256.size (k0_off87_inb (grid0.coords t) h1)) (fun _ => rfl)).squeeze S85x8x256 squeezes_S1x1x85x8x256_S85x8x256 = tile (Ring.sl 2 t.val) 0 :=
  tile_of (Ring.sl 2 t.val) 0 (off87_eq t) _
@[sl_canon] theorem off87_at' (t : Fin grid0.N) (h1 : drains (grid0.coords t)) :
    (scratch.slice (Rect.unit (s := S2x6x85x8x256) (k0_off87 (grid0.coords t)) ![1, 1, 85, 8, 256] (k0_off87_inb (grid0.coords t) h1)) (fun _ => rfl)).squeeze S85x8x256 squeezes_S1x1x85x8x256_S85x8x256 = tile (Ring.sl 2 t.val) 0 :=
  tile_of (Ring.sl 2 t.val) 0 (off87_eq t) _
set_option synthInstance.maxSize 4096 in
/-- The computed address of anchor 1's cell in the step's group. -/
theorem off88_eq : ∀ t : Fin grid0.N, k0_off88 (grid0.coords t) = ![(Ring.sl 2 t.val).val, 1] := by decide +kernel
@[sl_canon] theorem off88_at (t : Fin grid0.N) (h1 : drains (grid0.coords t)) :
    (cc0_scratch1.slice (Rect.unit (s := S2x6) (k0_off88 (grid0.coords t)) S1x1.size (k0_off88_inb (grid0.coords t) h1))).squeeze S_ squeezes_S1x1_S_ = cellA (Ring.sl 2 t.val) 1 :=
  cell_of (Ring.sl 2 t.val) 1 (off88_eq t) _
@[sl_canon] theorem off88_at' (t : Fin grid0.N) (h1 : drains (grid0.coords t)) :
    (cc0_scratch1.slice (Rect.unit (s := S2x6) (k0_off88 (grid0.coords t)) ![1, 1] (k0_off88_inb (grid0.coords t) h1))).squeeze S_ squeezes_S1x1_S_ = cellA (Ring.sl 2 t.val) 1 :=
  cell_of (Ring.sl 2 t.val) 1 (off88_eq t) _
set_option synthInstance.maxSize 4096 in
/-- The computed address of anchor 1's tile in the step's group. -/
theorem off89_eq : ∀ t : Fin grid0.N, k0_off89 (grid0.coords t) = ![(Ring.sl 2 t.val).val, 1, 0, 0, 0] := by decide +kernel
@[sl_canon] theorem off89_at (t : Fin grid0.N) (h1 : drains (grid0.coords t)) :
    (scratch.slice (Rect.unit (s := S2x6x85x8x256) (k0_off89 (grid0.coords t)) S1x1x85x8x256.size (k0_off89_inb (grid0.coords t) h1)) (fun _ => rfl)).squeeze S85x8x256 squeezes_S1x1x85x8x256_S85x8x256 = tile (Ring.sl 2 t.val) 1 :=
  tile_of (Ring.sl 2 t.val) 1 (off89_eq t) _
@[sl_canon] theorem off89_at' (t : Fin grid0.N) (h1 : drains (grid0.coords t)) :
    (scratch.slice (Rect.unit (s := S2x6x85x8x256) (k0_off89 (grid0.coords t)) ![1, 1, 85, 8, 256] (k0_off89_inb (grid0.coords t) h1)) (fun _ => rfl)).squeeze S85x8x256 squeezes_S1x1x85x8x256_S85x8x256 = tile (Ring.sl 2 t.val) 1 :=
  tile_of (Ring.sl 2 t.val) 1 (off89_eq t) _
set_option synthInstance.maxSize 4096 in
/-- The computed address of anchor 2's cell in the step's group. -/
theorem off90_eq : ∀ t : Fin grid0.N, k0_off90 (grid0.coords t) = ![(Ring.sl 2 t.val).val, 2] := by decide +kernel
@[sl_canon] theorem off90_at (t : Fin grid0.N) (h1 : drains (grid0.coords t)) :
    (cc0_scratch1.slice (Rect.unit (s := S2x6) (k0_off90 (grid0.coords t)) S1x1.size (k0_off90_inb (grid0.coords t) h1))).squeeze S_ squeezes_S1x1_S_ = cellA (Ring.sl 2 t.val) 2 :=
  cell_of (Ring.sl 2 t.val) 2 (off90_eq t) _
@[sl_canon] theorem off90_at' (t : Fin grid0.N) (h1 : drains (grid0.coords t)) :
    (cc0_scratch1.slice (Rect.unit (s := S2x6) (k0_off90 (grid0.coords t)) ![1, 1] (k0_off90_inb (grid0.coords t) h1))).squeeze S_ squeezes_S1x1_S_ = cellA (Ring.sl 2 t.val) 2 :=
  cell_of (Ring.sl 2 t.val) 2 (off90_eq t) _
set_option synthInstance.maxSize 4096 in
/-- The computed address of anchor 2's tile in the step's group. -/
theorem off91_eq : ∀ t : Fin grid0.N, k0_off91 (grid0.coords t) = ![(Ring.sl 2 t.val).val, 2, 0, 0, 0] := by decide +kernel
@[sl_canon] theorem off91_at (t : Fin grid0.N) (h1 : drains (grid0.coords t)) :
    (scratch.slice (Rect.unit (s := S2x6x85x8x256) (k0_off91 (grid0.coords t)) S1x1x85x8x256.size (k0_off91_inb (grid0.coords t) h1)) (fun _ => rfl)).squeeze S85x8x256 squeezes_S1x1x85x8x256_S85x8x256 = tile (Ring.sl 2 t.val) 2 :=
  tile_of (Ring.sl 2 t.val) 2 (off91_eq t) _
@[sl_canon] theorem off91_at' (t : Fin grid0.N) (h1 : drains (grid0.coords t)) :
    (scratch.slice (Rect.unit (s := S2x6x85x8x256) (k0_off91 (grid0.coords t)) ![1, 1, 85, 8, 256] (k0_off91_inb (grid0.coords t) h1)) (fun _ => rfl)).squeeze S85x8x256 squeezes_S1x1x85x8x256_S85x8x256 = tile (Ring.sl 2 t.val) 2 :=
  tile_of (Ring.sl 2 t.val) 2 (off91_eq t) _
set_option synthInstance.maxSize 4096 in
/-- The computed address of anchor 3's cell in the step's group. -/
theorem off92_eq : ∀ t : Fin grid0.N, k0_off92 (grid0.coords t) = ![(Ring.sl 2 t.val).val, 3] := by decide +kernel
@[sl_canon] theorem off92_at (t : Fin grid0.N) (h1 : drains (grid0.coords t)) :
    (cc0_scratch1.slice (Rect.unit (s := S2x6) (k0_off92 (grid0.coords t)) S1x1.size (k0_off92_inb (grid0.coords t) h1))).squeeze S_ squeezes_S1x1_S_ = cellA (Ring.sl 2 t.val) 3 :=
  cell_of (Ring.sl 2 t.val) 3 (off92_eq t) _
@[sl_canon] theorem off92_at' (t : Fin grid0.N) (h1 : drains (grid0.coords t)) :
    (cc0_scratch1.slice (Rect.unit (s := S2x6) (k0_off92 (grid0.coords t)) ![1, 1] (k0_off92_inb (grid0.coords t) h1))).squeeze S_ squeezes_S1x1_S_ = cellA (Ring.sl 2 t.val) 3 :=
  cell_of (Ring.sl 2 t.val) 3 (off92_eq t) _
set_option synthInstance.maxSize 4096 in
/-- The computed address of anchor 3's tile in the step's group. -/
theorem off93_eq : ∀ t : Fin grid0.N, k0_off93 (grid0.coords t) = ![(Ring.sl 2 t.val).val, 3, 0, 0, 0] := by decide +kernel
@[sl_canon] theorem off93_at (t : Fin grid0.N) (h1 : drains (grid0.coords t)) :
    (scratch.slice (Rect.unit (s := S2x6x85x8x256) (k0_off93 (grid0.coords t)) S1x1x85x8x256.size (k0_off93_inb (grid0.coords t) h1)) (fun _ => rfl)).squeeze S85x8x256 squeezes_S1x1x85x8x256_S85x8x256 = tile (Ring.sl 2 t.val) 3 :=
  tile_of (Ring.sl 2 t.val) 3 (off93_eq t) _
@[sl_canon] theorem off93_at' (t : Fin grid0.N) (h1 : drains (grid0.coords t)) :
    (scratch.slice (Rect.unit (s := S2x6x85x8x256) (k0_off93 (grid0.coords t)) ![1, 1, 85, 8, 256] (k0_off93_inb (grid0.coords t) h1)) (fun _ => rfl)).squeeze S85x8x256 squeezes_S1x1x85x8x256_S85x8x256 = tile (Ring.sl 2 t.val) 3 :=
  tile_of (Ring.sl 2 t.val) 3 (off93_eq t) _
set_option synthInstance.maxSize 4096 in
/-- The computed address of anchor 4's cell in the step's group. -/
theorem off94_eq : ∀ t : Fin grid0.N, k0_off94 (grid0.coords t) = ![(Ring.sl 2 t.val).val, 4] := by decide +kernel
@[sl_canon] theorem off94_at (t : Fin grid0.N) (h1 : drains (grid0.coords t)) :
    (cc0_scratch1.slice (Rect.unit (s := S2x6) (k0_off94 (grid0.coords t)) S1x1.size (k0_off94_inb (grid0.coords t) h1))).squeeze S_ squeezes_S1x1_S_ = cellA (Ring.sl 2 t.val) 4 :=
  cell_of (Ring.sl 2 t.val) 4 (off94_eq t) _
@[sl_canon] theorem off94_at' (t : Fin grid0.N) (h1 : drains (grid0.coords t)) :
    (cc0_scratch1.slice (Rect.unit (s := S2x6) (k0_off94 (grid0.coords t)) ![1, 1] (k0_off94_inb (grid0.coords t) h1))).squeeze S_ squeezes_S1x1_S_ = cellA (Ring.sl 2 t.val) 4 :=
  cell_of (Ring.sl 2 t.val) 4 (off94_eq t) _
set_option synthInstance.maxSize 4096 in
/-- The computed address of anchor 4's tile in the step's group. -/
theorem off95_eq : ∀ t : Fin grid0.N, k0_off95 (grid0.coords t) = ![(Ring.sl 2 t.val).val, 4, 0, 0, 0] := by decide +kernel
@[sl_canon] theorem off95_at (t : Fin grid0.N) (h1 : drains (grid0.coords t)) :
    (scratch.slice (Rect.unit (s := S2x6x85x8x256) (k0_off95 (grid0.coords t)) S1x1x85x8x256.size (k0_off95_inb (grid0.coords t) h1)) (fun _ => rfl)).squeeze S85x8x256 squeezes_S1x1x85x8x256_S85x8x256 = tile (Ring.sl 2 t.val) 4 :=
  tile_of (Ring.sl 2 t.val) 4 (off95_eq t) _
@[sl_canon] theorem off95_at' (t : Fin grid0.N) (h1 : drains (grid0.coords t)) :
    (scratch.slice (Rect.unit (s := S2x6x85x8x256) (k0_off95 (grid0.coords t)) ![1, 1, 85, 8, 256] (k0_off95_inb (grid0.coords t) h1)) (fun _ => rfl)).squeeze S85x8x256 squeezes_S1x1x85x8x256_S85x8x256 = tile (Ring.sl 2 t.val) 4 :=
  tile_of (Ring.sl 2 t.val) 4 (off95_eq t) _
set_option synthInstance.maxSize 4096 in
/-- The computed address of anchor 5's cell in the step's group. -/
theorem off96_eq : ∀ t : Fin grid0.N, k0_off96 (grid0.coords t) = ![(Ring.sl 2 t.val).val, 5] := by decide +kernel
@[sl_canon] theorem off96_at (t : Fin grid0.N) (h1 : drains (grid0.coords t)) :
    (cc0_scratch1.slice (Rect.unit (s := S2x6) (k0_off96 (grid0.coords t)) S1x1.size (k0_off96_inb (grid0.coords t) h1))).squeeze S_ squeezes_S1x1_S_ = cellA (Ring.sl 2 t.val) 5 :=
  cell_of (Ring.sl 2 t.val) 5 (off96_eq t) _
@[sl_canon] theorem off96_at' (t : Fin grid0.N) (h1 : drains (grid0.coords t)) :
    (cc0_scratch1.slice (Rect.unit (s := S2x6) (k0_off96 (grid0.coords t)) ![1, 1] (k0_off96_inb (grid0.coords t) h1))).squeeze S_ squeezes_S1x1_S_ = cellA (Ring.sl 2 t.val) 5 :=
  cell_of (Ring.sl 2 t.val) 5 (off96_eq t) _
set_option synthInstance.maxSize 4096 in
/-- The computed address of anchor 5's tile in the step's group. -/
theorem off97_eq : ∀ t : Fin grid0.N, k0_off97 (grid0.coords t) = ![(Ring.sl 2 t.val).val, 5, 0, 0, 0] := by decide +kernel
@[sl_canon] theorem off97_at (t : Fin grid0.N) (h1 : drains (grid0.coords t)) :
    (scratch.slice (Rect.unit (s := S2x6x85x8x256) (k0_off97 (grid0.coords t)) S1x1x85x8x256.size (k0_off97_inb (grid0.coords t) h1)) (fun _ => rfl)).squeeze S85x8x256 squeezes_S1x1x85x8x256_S85x8x256 = tile (Ring.sl 2 t.val) 5 :=
  tile_of (Ring.sl 2 t.val) 5 (off97_eq t) _
@[sl_canon] theorem off97_at' (t : Fin grid0.N) (h1 : drains (grid0.coords t)) :
    (scratch.slice (Rect.unit (s := S2x6x85x8x256) (k0_off97 (grid0.coords t)) ![1, 1, 85, 8, 256] (k0_off97_inb (grid0.coords t) h1)) (fun _ => rfl)).squeeze S85x8x256 squeezes_S1x1x85x8x256_S85x8x256 = tile (Ring.sl 2 t.val) 5 :=
  tile_of (Ring.sl 2 t.val) 5 (off97_eq t) _
set_option synthInstance.maxSize 4096 in
/-- The computed address of row 0 of anchor 0's tile in the step's group. -/
theorem off13_eq : ∀ t : Fin grid0.N, k0_off13 (grid0.coords t) = ![(Ring.sl 2 t.val).val, 0, 0, 0, 0] := by decide +kernel
instance (priority := high) off13_closed (t : Fin grid0.N) : ClosedOff (k0_off13 (grid0.coords t)) := ⟨![(Ring.sl 2 t.val).val, 0, 0, 0, 0], off13_eq t⟩
set_option synthInstance.maxSize 4096 in
/-- The computed address of row 0 of anchor 1's tile in the step's group. -/
theorem off14_eq : ∀ t : Fin grid0.N, k0_off14 (grid0.coords t) = ![(Ring.sl 2 t.val).val, 1, 0, 0, 0] := by decide +kernel
instance (priority := high) off14_closed (t : Fin grid0.N) : ClosedOff (k0_off14 (grid0.coords t)) := ⟨![(Ring.sl 2 t.val).val, 1, 0, 0, 0], off14_eq t⟩
set_option synthInstance.maxSize 4096 in
/-- The computed address of row 0 of anchor 2's tile in the step's group. -/
theorem off15_eq : ∀ t : Fin grid0.N, k0_off15 (grid0.coords t) = ![(Ring.sl 2 t.val).val, 2, 0, 0, 0] := by decide +kernel
instance (priority := high) off15_closed (t : Fin grid0.N) : ClosedOff (k0_off15 (grid0.coords t)) := ⟨![(Ring.sl 2 t.val).val, 2, 0, 0, 0], off15_eq t⟩
set_option synthInstance.maxSize 4096 in
/-- The computed address of row 0 of anchor 3's tile in the step's group. -/
theorem off16_eq : ∀ t : Fin grid0.N, k0_off16 (grid0.coords t) = ![(Ring.sl 2 t.val).val, 3, 0, 0, 0] := by decide +kernel
instance (priority := high) off16_closed (t : Fin grid0.N) : ClosedOff (k0_off16 (grid0.coords t)) := ⟨![(Ring.sl 2 t.val).val, 3, 0, 0, 0], off16_eq t⟩
set_option synthInstance.maxSize 4096 in
/-- The computed address of row 0 of anchor 4's tile in the step's group. -/
theorem off17_eq : ∀ t : Fin grid0.N, k0_off17 (grid0.coords t) = ![(Ring.sl 2 t.val).val, 4, 0, 0, 0] := by decide +kernel
instance (priority := high) off17_closed (t : Fin grid0.N) : ClosedOff (k0_off17 (grid0.coords t)) := ⟨![(Ring.sl 2 t.val).val, 4, 0, 0, 0], off17_eq t⟩
set_option synthInstance.maxSize 4096 in
/-- The computed address of row 0 of anchor 5's tile in the step's group. -/
theorem off18_eq : ∀ t : Fin grid0.N, k0_off18 (grid0.coords t) = ![(Ring.sl 2 t.val).val, 5, 0, 0, 0] := by decide +kernel
instance (priority := high) off18_closed (t : Fin grid0.N) : ClosedOff (k0_off18 (grid0.coords t)) := ⟨![(Ring.sl 2 t.val).val, 5, 0, 0, 0], off18_eq t⟩
set_option synthInstance.maxSize 4096 in
/-- The computed address of row 1 of anchor 0's tile in the step's group. -/
theorem off19_eq : ∀ t : Fin grid0.N, k0_off19 (grid0.coords t) = ![(Ring.sl 2 t.val).val, 0, 0, 1, 0] := by decide +kernel
instance (priority := high) off19_closed (t : Fin grid0.N) : ClosedOff (k0_off19 (grid0.coords t)) := ⟨![(Ring.sl 2 t.val).val, 0, 0, 1, 0], off19_eq t⟩
set_option synthInstance.maxSize 4096 in
/-- The computed address of row 1 of anchor 1's tile in the step's group. -/
theorem off20_eq : ∀ t : Fin grid0.N, k0_off20 (grid0.coords t) = ![(Ring.sl 2 t.val).val, 1, 0, 1, 0] := by decide +kernel
instance (priority := high) off20_closed (t : Fin grid0.N) : ClosedOff (k0_off20 (grid0.coords t)) := ⟨![(Ring.sl 2 t.val).val, 1, 0, 1, 0], off20_eq t⟩
set_option synthInstance.maxSize 4096 in
/-- The computed address of row 1 of anchor 2's tile in the step's group. -/
theorem off21_eq : ∀ t : Fin grid0.N, k0_off21 (grid0.coords t) = ![(Ring.sl 2 t.val).val, 2, 0, 1, 0] := by decide +kernel
instance (priority := high) off21_closed (t : Fin grid0.N) : ClosedOff (k0_off21 (grid0.coords t)) := ⟨![(Ring.sl 2 t.val).val, 2, 0, 1, 0], off21_eq t⟩
set_option synthInstance.maxSize 4096 in
/-- The computed address of row 1 of anchor 3's tile in the step's group. -/
theorem off22_eq : ∀ t : Fin grid0.N, k0_off22 (grid0.coords t) = ![(Ring.sl 2 t.val).val, 3, 0, 1, 0] := by decide +kernel
instance (priority := high) off22_closed (t : Fin grid0.N) : ClosedOff (k0_off22 (grid0.coords t)) := ⟨![(Ring.sl 2 t.val).val, 3, 0, 1, 0], off22_eq t⟩
set_option synthInstance.maxSize 4096 in
/-- The computed address of row 1 of anchor 4's tile in the step's group. -/
theorem off23_eq : ∀ t : Fin grid0.N, k0_off23 (grid0.coords t) = ![(Ring.sl 2 t.val).val, 4, 0, 1, 0] := by decide +kernel
instance (priority := high) off23_closed (t : Fin grid0.N) : ClosedOff (k0_off23 (grid0.coords t)) := ⟨![(Ring.sl 2 t.val).val, 4, 0, 1, 0], off23_eq t⟩
set_option synthInstance.maxSize 4096 in
/-- The computed address of row 1 of anchor 5's tile in the step's group. -/
theorem off24_eq : ∀ t : Fin grid0.N, k0_off24 (grid0.coords t) = ![(Ring.sl 2 t.val).val, 5, 0, 1, 0] := by decide +kernel
instance (priority := high) off24_closed (t : Fin grid0.N) : ClosedOff (k0_off24 (grid0.coords t)) := ⟨![(Ring.sl 2 t.val).val, 5, 0, 1, 0], off24_eq t⟩
set_option synthInstance.maxSize 4096 in
/-- The computed address of row 2 of anchor 0's tile in the step's group. -/
theorem off25_eq : ∀ t : Fin grid0.N, k0_off25 (grid0.coords t) = ![(Ring.sl 2 t.val).val, 0, 0, 2, 0] := by decide +kernel
instance (priority := high) off25_closed (t : Fin grid0.N) : ClosedOff (k0_off25 (grid0.coords t)) := ⟨![(Ring.sl 2 t.val).val, 0, 0, 2, 0], off25_eq t⟩
set_option synthInstance.maxSize 4096 in
/-- The computed address of row 2 of anchor 1's tile in the step's group. -/
theorem off26_eq : ∀ t : Fin grid0.N, k0_off26 (grid0.coords t) = ![(Ring.sl 2 t.val).val, 1, 0, 2, 0] := by decide +kernel
instance (priority := high) off26_closed (t : Fin grid0.N) : ClosedOff (k0_off26 (grid0.coords t)) := ⟨![(Ring.sl 2 t.val).val, 1, 0, 2, 0], off26_eq t⟩
set_option synthInstance.maxSize 4096 in
/-- The computed address of row 2 of anchor 2's tile in the step's group. -/
theorem off27_eq : ∀ t : Fin grid0.N, k0_off27 (grid0.coords t) = ![(Ring.sl 2 t.val).val, 2, 0, 2, 0] := by decide +kernel
instance (priority := high) off27_closed (t : Fin grid0.N) : ClosedOff (k0_off27 (grid0.coords t)) := ⟨![(Ring.sl 2 t.val).val, 2, 0, 2, 0], off27_eq t⟩
set_option synthInstance.maxSize 4096 in
/-- The computed address of row 2 of anchor 3's tile in the step's group. -/
theorem off28_eq : ∀ t : Fin grid0.N, k0_off28 (grid0.coords t) = ![(Ring.sl 2 t.val).val, 3, 0, 2, 0] := by decide +kernel
instance (priority := high) off28_closed (t : Fin grid0.N) : ClosedOff (k0_off28 (grid0.coords t)) := ⟨![(Ring.sl 2 t.val).val, 3, 0, 2, 0], off28_eq t⟩
set_option synthInstance.maxSize 4096 in
/-- The computed address of row 2 of anchor 4's tile in the step's group. -/
theorem off29_eq : ∀ t : Fin grid0.N, k0_off29 (grid0.coords t) = ![(Ring.sl 2 t.val).val, 4, 0, 2, 0] := by decide +kernel
instance (priority := high) off29_closed (t : Fin grid0.N) : ClosedOff (k0_off29 (grid0.coords t)) := ⟨![(Ring.sl 2 t.val).val, 4, 0, 2, 0], off29_eq t⟩
set_option synthInstance.maxSize 4096 in
/-- The computed address of row 2 of anchor 5's tile in the step's group. -/
theorem off30_eq : ∀ t : Fin grid0.N, k0_off30 (grid0.coords t) = ![(Ring.sl 2 t.val).val, 5, 0, 2, 0] := by decide +kernel
instance (priority := high) off30_closed (t : Fin grid0.N) : ClosedOff (k0_off30 (grid0.coords t)) := ⟨![(Ring.sl 2 t.val).val, 5, 0, 2, 0], off30_eq t⟩
set_option synthInstance.maxSize 4096 in
/-- The computed address of row 3 of anchor 0's tile in the step's group. -/
theorem off31_eq : ∀ t : Fin grid0.N, k0_off31 (grid0.coords t) = ![(Ring.sl 2 t.val).val, 0, 0, 3, 0] := by decide +kernel
instance (priority := high) off31_closed (t : Fin grid0.N) : ClosedOff (k0_off31 (grid0.coords t)) := ⟨![(Ring.sl 2 t.val).val, 0, 0, 3, 0], off31_eq t⟩
set_option synthInstance.maxSize 4096 in
/-- The computed address of row 3 of anchor 1's tile in the step's group. -/
theorem off32_eq : ∀ t : Fin grid0.N, k0_off32 (grid0.coords t) = ![(Ring.sl 2 t.val).val, 1, 0, 3, 0] := by decide +kernel
instance (priority := high) off32_closed (t : Fin grid0.N) : ClosedOff (k0_off32 (grid0.coords t)) := ⟨![(Ring.sl 2 t.val).val, 1, 0, 3, 0], off32_eq t⟩
set_option synthInstance.maxSize 4096 in
/-- The computed address of row 3 of anchor 2's tile in the step's group. -/
theorem off33_eq : ∀ t : Fin grid0.N, k0_off33 (grid0.coords t) = ![(Ring.sl 2 t.val).val, 2, 0, 3, 0] := by decide +kernel
instance (priority := high) off33_closed (t : Fin grid0.N) : ClosedOff (k0_off33 (grid0.coords t)) := ⟨![(Ring.sl 2 t.val).val, 2, 0, 3, 0], off33_eq t⟩
set_option synthInstance.maxSize 4096 in
/-- The computed address of row 3 of anchor 3's tile in the step's group. -/
theorem off34_eq : ∀ t : Fin grid0.N, k0_off34 (grid0.coords t) = ![(Ring.sl 2 t.val).val, 3, 0, 3, 0] := by decide +kernel
instance (priority := high) off34_closed (t : Fin grid0.N) : ClosedOff (k0_off34 (grid0.coords t)) := ⟨![(Ring.sl 2 t.val).val, 3, 0, 3, 0], off34_eq t⟩
set_option synthInstance.maxSize 4096 in
/-- The computed address of row 3 of anchor 4's tile in the step's group. -/
theorem off35_eq : ∀ t : Fin grid0.N, k0_off35 (grid0.coords t) = ![(Ring.sl 2 t.val).val, 4, 0, 3, 0] := by decide +kernel
instance (priority := high) off35_closed (t : Fin grid0.N) : ClosedOff (k0_off35 (grid0.coords t)) := ⟨![(Ring.sl 2 t.val).val, 4, 0, 3, 0], off35_eq t⟩
set_option synthInstance.maxSize 4096 in
/-- The computed address of row 3 of anchor 5's tile in the step's group. -/
theorem off36_eq : ∀ t : Fin grid0.N, k0_off36 (grid0.coords t) = ![(Ring.sl 2 t.val).val, 5, 0, 3, 0] := by decide +kernel
instance (priority := high) off36_closed (t : Fin grid0.N) : ClosedOff (k0_off36 (grid0.coords t)) := ⟨![(Ring.sl 2 t.val).val, 5, 0, 3, 0], off36_eq t⟩
set_option synthInstance.maxSize 4096 in
/-- The computed address of row 4 of anchor 0's tile in the step's group. -/
theorem off37_eq : ∀ t : Fin grid0.N, k0_off37 (grid0.coords t) = ![(Ring.sl 2 t.val).val, 0, 0, 4, 0] := by decide +kernel
instance (priority := high) off37_closed (t : Fin grid0.N) : ClosedOff (k0_off37 (grid0.coords t)) := ⟨![(Ring.sl 2 t.val).val, 0, 0, 4, 0], off37_eq t⟩
set_option synthInstance.maxSize 4096 in
/-- The computed address of row 4 of anchor 1's tile in the step's group. -/
theorem off38_eq : ∀ t : Fin grid0.N, k0_off38 (grid0.coords t) = ![(Ring.sl 2 t.val).val, 1, 0, 4, 0] := by decide +kernel
instance (priority := high) off38_closed (t : Fin grid0.N) : ClosedOff (k0_off38 (grid0.coords t)) := ⟨![(Ring.sl 2 t.val).val, 1, 0, 4, 0], off38_eq t⟩
set_option synthInstance.maxSize 4096 in
/-- The computed address of row 4 of anchor 2's tile in the step's group. -/
theorem off39_eq : ∀ t : Fin grid0.N, k0_off39 (grid0.coords t) = ![(Ring.sl 2 t.val).val, 2, 0, 4, 0] := by decide +kernel
instance (priority := high) off39_closed (t : Fin grid0.N) : ClosedOff (k0_off39 (grid0.coords t)) := ⟨![(Ring.sl 2 t.val).val, 2, 0, 4, 0], off39_eq t⟩
set_option synthInstance.maxSize 4096 in
/-- The computed address of row 4 of anchor 3's tile in the step's group. -/
theorem off40_eq : ∀ t : Fin grid0.N, k0_off40 (grid0.coords t) = ![(Ring.sl 2 t.val).val, 3, 0, 4, 0] := by decide +kernel
instance (priority := high) off40_closed (t : Fin grid0.N) : ClosedOff (k0_off40 (grid0.coords t)) := ⟨![(Ring.sl 2 t.val).val, 3, 0, 4, 0], off40_eq t⟩
set_option synthInstance.maxSize 4096 in
/-- The computed address of row 4 of anchor 4's tile in the step's group. -/
theorem off41_eq : ∀ t : Fin grid0.N, k0_off41 (grid0.coords t) = ![(Ring.sl 2 t.val).val, 4, 0, 4, 0] := by decide +kernel
instance (priority := high) off41_closed (t : Fin grid0.N) : ClosedOff (k0_off41 (grid0.coords t)) := ⟨![(Ring.sl 2 t.val).val, 4, 0, 4, 0], off41_eq t⟩
set_option synthInstance.maxSize 4096 in
/-- The computed address of row 4 of anchor 5's tile in the step's group. -/
theorem off42_eq : ∀ t : Fin grid0.N, k0_off42 (grid0.coords t) = ![(Ring.sl 2 t.val).val, 5, 0, 4, 0] := by decide +kernel
instance (priority := high) off42_closed (t : Fin grid0.N) : ClosedOff (k0_off42 (grid0.coords t)) := ⟨![(Ring.sl 2 t.val).val, 5, 0, 4, 0], off42_eq t⟩
set_option synthInstance.maxSize 4096 in
/-- The computed address of row 5 of anchor 0's tile in the step's group. -/
theorem off43_eq : ∀ t : Fin grid0.N, k0_off43 (grid0.coords t) = ![(Ring.sl 2 t.val).val, 0, 0, 5, 0] := by decide +kernel
instance (priority := high) off43_closed (t : Fin grid0.N) : ClosedOff (k0_off43 (grid0.coords t)) := ⟨![(Ring.sl 2 t.val).val, 0, 0, 5, 0], off43_eq t⟩
set_option synthInstance.maxSize 4096 in
/-- The computed address of row 5 of anchor 1's tile in the step's group. -/
theorem off44_eq : ∀ t : Fin grid0.N, k0_off44 (grid0.coords t) = ![(Ring.sl 2 t.val).val, 1, 0, 5, 0] := by decide +kernel
instance (priority := high) off44_closed (t : Fin grid0.N) : ClosedOff (k0_off44 (grid0.coords t)) := ⟨![(Ring.sl 2 t.val).val, 1, 0, 5, 0], off44_eq t⟩
set_option synthInstance.maxSize 4096 in
/-- The computed address of row 5 of anchor 2's tile in the step's group. -/
theorem off45_eq : ∀ t : Fin grid0.N, k0_off45 (grid0.coords t) = ![(Ring.sl 2 t.val).val, 2, 0, 5, 0] := by decide +kernel
instance (priority := high) off45_closed (t : Fin grid0.N) : ClosedOff (k0_off45 (grid0.coords t)) := ⟨![(Ring.sl 2 t.val).val, 2, 0, 5, 0], off45_eq t⟩
set_option synthInstance.maxSize 4096 in
/-- The computed address of row 5 of anchor 3's tile in the step's group. -/
theorem off46_eq : ∀ t : Fin grid0.N, k0_off46 (grid0.coords t) = ![(Ring.sl 2 t.val).val, 3, 0, 5, 0] := by decide +kernel
instance (priority := high) off46_closed (t : Fin grid0.N) : ClosedOff (k0_off46 (grid0.coords t)) := ⟨![(Ring.sl 2 t.val).val, 3, 0, 5, 0], off46_eq t⟩
set_option synthInstance.maxSize 4096 in
/-- The computed address of row 5 of anchor 4's tile in the step's group. -/
theorem off47_eq : ∀ t : Fin grid0.N, k0_off47 (grid0.coords t) = ![(Ring.sl 2 t.val).val, 4, 0, 5, 0] := by decide +kernel
instance (priority := high) off47_closed (t : Fin grid0.N) : ClosedOff (k0_off47 (grid0.coords t)) := ⟨![(Ring.sl 2 t.val).val, 4, 0, 5, 0], off47_eq t⟩
set_option synthInstance.maxSize 4096 in
/-- The computed address of row 5 of anchor 5's tile in the step's group. -/
theorem off48_eq : ∀ t : Fin grid0.N, k0_off48 (grid0.coords t) = ![(Ring.sl 2 t.val).val, 5, 0, 5, 0] := by decide +kernel
instance (priority := high) off48_closed (t : Fin grid0.N) : ClosedOff (k0_off48 (grid0.coords t)) := ⟨![(Ring.sl 2 t.val).val, 5, 0, 5, 0], off48_eq t⟩
set_option synthInstance.maxSize 4096 in
/-- The computed address of row 6 of anchor 0's tile in the step's group. -/
theorem off49_eq : ∀ t : Fin grid0.N, k0_off49 (grid0.coords t) = ![(Ring.sl 2 t.val).val, 0, 0, 6, 0] := by decide +kernel
instance (priority := high) off49_closed (t : Fin grid0.N) : ClosedOff (k0_off49 (grid0.coords t)) := ⟨![(Ring.sl 2 t.val).val, 0, 0, 6, 0], off49_eq t⟩
set_option synthInstance.maxSize 4096 in
/-- The computed address of row 6 of anchor 1's tile in the step's group. -/
theorem off50_eq : ∀ t : Fin grid0.N, k0_off50 (grid0.coords t) = ![(Ring.sl 2 t.val).val, 1, 0, 6, 0] := by decide +kernel
instance (priority := high) off50_closed (t : Fin grid0.N) : ClosedOff (k0_off50 (grid0.coords t)) := ⟨![(Ring.sl 2 t.val).val, 1, 0, 6, 0], off50_eq t⟩
set_option synthInstance.maxSize 4096 in
/-- The computed address of row 6 of anchor 2's tile in the step's group. -/
theorem off51_eq : ∀ t : Fin grid0.N, k0_off51 (grid0.coords t) = ![(Ring.sl 2 t.val).val, 2, 0, 6, 0] := by decide +kernel
instance (priority := high) off51_closed (t : Fin grid0.N) : ClosedOff (k0_off51 (grid0.coords t)) := ⟨![(Ring.sl 2 t.val).val, 2, 0, 6, 0], off51_eq t⟩
set_option synthInstance.maxSize 4096 in
/-- The computed address of row 6 of anchor 3's tile in the step's group. -/
theorem off52_eq : ∀ t : Fin grid0.N, k0_off52 (grid0.coords t) = ![(Ring.sl 2 t.val).val, 3, 0, 6, 0] := by decide +kernel
instance (priority := high) off52_closed (t : Fin grid0.N) : ClosedOff (k0_off52 (grid0.coords t)) := ⟨![(Ring.sl 2 t.val).val, 3, 0, 6, 0], off52_eq t⟩
set_option synthInstance.maxSize 4096 in
/-- The computed address of row 6 of anchor 4's tile in the step's group. -/
theorem off53_eq : ∀ t : Fin grid0.N, k0_off53 (grid0.coords t) = ![(Ring.sl 2 t.val).val, 4, 0, 6, 0] := by decide +kernel
instance (priority := high) off53_closed (t : Fin grid0.N) : ClosedOff (k0_off53 (grid0.coords t)) := ⟨![(Ring.sl 2 t.val).val, 4, 0, 6, 0], off53_eq t⟩
set_option synthInstance.maxSize 4096 in
/-- The computed address of row 6 of anchor 5's tile in the step's group. -/
theorem off54_eq : ∀ t : Fin grid0.N, k0_off54 (grid0.coords t) = ![(Ring.sl 2 t.val).val, 5, 0, 6, 0] := by decide +kernel
instance (priority := high) off54_closed (t : Fin grid0.N) : ClosedOff (k0_off54 (grid0.coords t)) := ⟨![(Ring.sl 2 t.val).val, 5, 0, 6, 0], off54_eq t⟩
set_option synthInstance.maxSize 4096 in
/-- The computed address of row 7 of anchor 0's tile in the step's group. -/
theorem off55_eq : ∀ t : Fin grid0.N, k0_off55 (grid0.coords t) = ![(Ring.sl 2 t.val).val, 0, 0, 7, 0] := by decide +kernel
instance (priority := high) off55_closed (t : Fin grid0.N) : ClosedOff (k0_off55 (grid0.coords t)) := ⟨![(Ring.sl 2 t.val).val, 0, 0, 7, 0], off55_eq t⟩
set_option synthInstance.maxSize 4096 in
/-- The computed address of row 7 of anchor 1's tile in the step's group. -/
theorem off56_eq : ∀ t : Fin grid0.N, k0_off56 (grid0.coords t) = ![(Ring.sl 2 t.val).val, 1, 0, 7, 0] := by decide +kernel
instance (priority := high) off56_closed (t : Fin grid0.N) : ClosedOff (k0_off56 (grid0.coords t)) := ⟨![(Ring.sl 2 t.val).val, 1, 0, 7, 0], off56_eq t⟩
set_option synthInstance.maxSize 4096 in
/-- The computed address of row 7 of anchor 2's tile in the step's group. -/
theorem off57_eq : ∀ t : Fin grid0.N, k0_off57 (grid0.coords t) = ![(Ring.sl 2 t.val).val, 2, 0, 7, 0] := by decide +kernel
instance (priority := high) off57_closed (t : Fin grid0.N) : ClosedOff (k0_off57 (grid0.coords t)) := ⟨![(Ring.sl 2 t.val).val, 2, 0, 7, 0], off57_eq t⟩
set_option synthInstance.maxSize 4096 in
/-- The computed address of row 7 of anchor 3's tile in the step's group. -/
theorem off58_eq : ∀ t : Fin grid0.N, k0_off58 (grid0.coords t) = ![(Ring.sl 2 t.val).val, 3, 0, 7, 0] := by decide +kernel
instance (priority := high) off58_closed (t : Fin grid0.N) : ClosedOff (k0_off58 (grid0.coords t)) := ⟨![(Ring.sl 2 t.val).val, 3, 0, 7, 0], off58_eq t⟩
set_option synthInstance.maxSize 4096 in
/-- The computed address of row 7 of anchor 4's tile in the step's group. -/
theorem off59_eq : ∀ t : Fin grid0.N, k0_off59 (grid0.coords t) = ![(Ring.sl 2 t.val).val, 4, 0, 7, 0] := by decide +kernel
instance (priority := high) off59_closed (t : Fin grid0.N) : ClosedOff (k0_off59 (grid0.coords t)) := ⟨![(Ring.sl 2 t.val).val, 4, 0, 7, 0], off59_eq t⟩
set_option synthInstance.maxSize 4096 in
/-- The computed address of row 7 of anchor 5's tile in the step's group. -/
theorem off60_eq : ∀ t : Fin grid0.N, k0_off60 (grid0.coords t) = ![(Ring.sl 2 t.val).val, 5, 0, 7, 0] := by decide +kernel
instance (priority := high) off60_closed (t : Fin grid0.N) : ClosedOff (k0_off60 (grid0.coords t)) := ⟨![(Ring.sl 2 t.val).val, 5, 0, 7, 0], off60_eq t⟩
end Addresses

end Cert.KernelIdeal.Decode

end
-- ==== Proof.Block.lean ====
/-
  WHAT ONE STEP WRITES INTO A TILE. A step loads eight image blocks; each gives, for every anchor, one strip of 85 rows of
  256 decoded values, stored as row `n` of the anchor's tile. Eight stores later the tile holds eight strips.
-/
module

public import proofs.«01_k».proof.Proof.Names
public import Idealize.ShloMosaic.Lib.ValueIdxCore
public import Idealize.ShloMosaic.Lib.ValueLayout
public import Idealize.ShloMosaic.Lib.WritesUnit
public import Idealize.ShloMosaic.Lib.WholeRead
public import Idealize.ShloMosaic.Lib.Pipeline.Value

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F]

/-! ## The values -/

/-- The image rows of step `t`, as the kernel computes them lane by lane. -/
def rowOf (t : Fin grid0.N) : FVec F S1x256 .f32 :=
  k0_pay4 (iota .tc S1x256 32 [1] iota_S1x256_d1_w32) (Scalar.muli (BitVec.ofNat 32 (grid0.coords t 1).val) 4#32) 64#32
    k0_pay2 k0_pay3

/-- The 32-bit patterns of the anchors' widths. -/
def widthBits : Fin 6 → BitVec 32
  | 0 => 0x41800000#32
  | 1 => 0x41B80000#32
  | 2 => 0x41E00000#32
  | 3 => 0x42600000#32
  | 4 => 0x42C00000#32
  | 5 => 0x431D0000#32
/-- The 32-bit patterns of the anchors' heights. -/
def heightBits : Fin 6 → BitVec 32
  | 0 => 0x41000000#32
  | 1 => 0x42CE0000#32
  | 2 => 0x41B80000#32
  | 3 => 0x423C0000#32
  | 4 => 0x42F60000#32
  | 5 => 0x43780000#32
/-- Anchor `a`'s 85 channel rows of the transposed block. -/
def channels : Fin 6 → FVec F S510x256 .f32 → FVec F S85x256 .f32
  | 0, x => extractStridedSlice S85x256 ![0, 0] x slices_S510x256_o0_0_S85x256
  | 1, x => extractStridedSlice S85x256 ![85, 0] x slices_S510x256_o85_0_S85x256
  | 2, x => extractStridedSlice S85x256 ![170, 0] x slices_S510x256_o170_0_S85x256
  | 3, x => extractStridedSlice S85x256 ![255, 0] x slices_S510x256_o255_0_S85x256
  | 4, x => extractStridedSlice S85x256 ![340, 0] x slices_S510x256_o340_0_S85x256
  | 5, x => extractStridedSlice S85x256 ![425, 0] x slices_S510x256_o425_0_S85x256

/-- One strip: from an anchor's 85 channel rows, the two decoded centres, the two decoded extents, the objectness and the
    80 remaining channels. -/
def strip (col row : FVec F S1x256 .f32) (w h : BitVec 32) (s : FVec F S85x256 .f32) : FVec F S85x256 .f32 :=
  concatenate S85x256 0
    [⟨S1x256, mulf (addf (logistic (extractStridedSlice S1x256 ![0, 0] s slices_S85x256_o0_0_S1x256)) col)
        (broadcast S1x256 (Scalar.ofBits .f32 0x41000000#32))⟩,
     ⟨S1x256, mulf (addf (logistic (extractStridedSlice S1x256 ![1, 0] s slices_S85x256_o1_0_S1x256)) row)
        (broadcast S1x256 (Scalar.ofBits .f32 0x41000000#32))⟩,
     ⟨S1x256, mulf (exp (extractStridedSlice S1x256 ![2, 0] s slices_S85x256_o2_0_S1x256))
        (broadcast S1x256 (Scalar.ofBits .f32 w))⟩,
     ⟨S1x256, mulf (exp (extractStridedSlice S1x256 ![3, 0] s slices_S85x256_o3_0_S1x256))
        (broadcast S1x256 (Scalar.ofBits .f32 h))⟩,
     ⟨S1x256, logistic (extractStridedSlice S1x256 ![4, 0] s slices_S85x256_o4_0_S1x256)⟩,
     ⟨S80x256, extractStridedSlice S80x256 ![5, 0] s slices_S85x256_o5_0_S80x256⟩]
    concatenates_S1x256_S1x256_S1x256_S1x256_S1x256_S80x256_S85x256_d0

/-- What step `t` stores for anchor `a` from a loaded block. -/
def stored (t : Fin grid0.N) (a : Fin 6) (x : Vec F S1x4x64x510 .f32) : Vec F S1x1x85x1x256 .f32 :=
  shapeCast S1x1x85x1x256 (strip k0_pay1 (rowOf t) (widthBits a) (heightBits a) (channels a (k0_pay5 x)))
    shapeCasts_S85x256_S1x1x85x1x256

/-- Eight stored strips side by side, as a tile. -/
def tileOf (p : Fin 8 → Vec F S1x1x85x1x256 .f32) : Vec F S85x8x256 .f32 := fun y =>
  p (y 1) (ix5 (⟨0, Nat.one_pos⟩ : Fin 1) (⟨0, Nat.one_pos⟩ : Fin 1) (y 0) (⟨0, Nat.one_pos⟩ : Fin 1) (y 2))

/-- Image block `n` of the eight loaded together. -/
def blockAt (n : Fin 8) (x : Vec F S8x4x64x510 .f32) : Vec F S1x4x64x510 .f32 := fun i => x (ix4 n (i 1) (i 2) (i 3))

/-- Anchor `a`'s tile at step `t`, from the step's eight image blocks. -/
def tileVal (t : Fin grid0.N) (x : Vec F S8x4x64x510 .f32) (a : Fin 6) : Vec F S85x8x256 .f32 :=
  tileOf fun n => stored t a (blockAt n x)

/-! ## A tile read after the stores -/

section Tiles
omit [FloatOps F]
variable (c : Dev nD)

/-- A tile's element is the scratch's at the tile's group and anchor. -/
theorem read_tile (g : Fin 2) (a : Fin 6) (f : (scratch.view.ty).Contents (Elt F)) (k : Fin 85) (n : Fin 8) (l : Fin 256) :
    (tile g a).view.read (Elt F) f (ix3 k n l) = scratch.view.read (Elt F) f (ix5 g a k n l) := by
  show scratch.view.read (Elt F) f
      ((Rect.unit (s := S2x6x85x8x256) ![g.val, a.val, 0, 0, 0] S1x1x85x8x256.size (tile_inb g a)).emb
        (Shape.reshapeEquiv squeezes_S1x1x85x8x256_S85x8x256.numel_eq (ix3 k n l))) = _
  refine congrArg _ ?_
  refine (congrArg _ (reshapeEquiv_ix3_11abc squeezes_S1x1x85x8x256_S85x8x256.numel_eq k n l)).trans ?_
  funext x
  refine Fin.ext ?_
  match x with
  | 0 => show g.val + 1 * 0 = g.val; omega
  | 1 => show a.val + 1 * 0 = a.val; omega
  | 2 => show 0 + 1 * k.val = k.val; omega
  | 3 => show 0 + 1 * n.val = n.val; omega
  | 4 => show 0 + 1 * l.val = l.val; omega

/-- After a store to row `n` of the tile, that row reads the stored strip. -/
theorem read_store_same (g : Fin 2) (a : Fin 6) (n : Fin 8) (f : (scratch.view.ty).Contents (Elt F)) {off : Fin 5 → Nat}
    (inb : ∀ x, off x + S1x1x85x1x256.size x ≤ S2x6x85x8x256.size x) (p : Vec F S1x1x85x1x256 .f32)
    (h : off = ![g.val, a.val, 0, n.val, 0]) (k : Fin 85) (l : Fin 256) :
    (tile g a).view.read (Elt F)
        ((scratch.access (Rect.unit (s := S2x6x85x8x256) off S1x1x85x1x256.size inb)).write (Elt F) f p Finset.univ) (ix3 k n l)
      = p (ix5 (⟨0, Nat.one_pos⟩ : Fin 1) (⟨0, Nat.one_pos⟩ : Fin 1) k (⟨0, Nat.one_pos⟩ : Fin 1) l) := by
  rw [read_tile]
  refine View.read_writes_cons_unit_of_mem scratch.view f inb p [] _ _ h ?_
  intro x
  fin_cases x <;> simp

/-- After a store to row `n` of the tile, every other row reads what it did. -/
theorem read_store_other (g : Fin 2) (a : Fin 6) (n : Fin 8) (f : (scratch.view.ty).Contents (Elt F)) {off : Fin 5 → Nat}
    (inb : ∀ x, off x + S1x1x85x1x256.size x ≤ S2x6x85x8x256.size x) (p : Vec F S1x1x85x1x256 .f32)
    (h : off = ![g.val, a.val, 0, n.val, 0]) (n' : Fin 8) (hn : n' ≠ n) (k : Fin 85) (l : Fin 256) :
    (tile g a).view.read (Elt F)
        ((scratch.access (Rect.unit (s := S2x6x85x8x256) off S1x1x85x1x256.size inb)).write (Elt F) f p Finset.univ) (ix3 k n' l)
      = (tile g a).view.read (Elt F) f (ix3 k n' l) := by
  rw [read_tile, read_tile]
  refine View.read_writes_cons_unit_of_not_mem scratch.view f inb p [] _ h 3 ?_
  have hv : n'.val ≠ n.val := fun e => hn (Fin.ext e)
  show n'.val < n.val ∨ n.val + 1 ≤ n'.val
  omega

/-- The scratch after eight stores. -/
def fill (off : Fin 8 → Fin 5 → Nat) (inb : ∀ n x, off n x + S1x1x85x1x256.size x ≤ S2x6x85x8x256.size x)
    (p : Fin 8 → Vec F S1x1x85x1x256 .f32) (f : (scratch.view.ty).Contents (Elt F)) : (scratch.view.ty).Contents (Elt F) :=
    (scratch.access (Rect.unit (s := S2x6x85x8x256) (off 7) S1x1x85x1x256.size (inb 7))).write (Elt F) (
    (scratch.access (Rect.unit (s := S2x6x85x8x256) (off 6) S1x1x85x1x256.size (inb 6))).write (Elt F) (
    (scratch.access (Rect.unit (s := S2x6x85x8x256) (off 5) S1x1x85x1x256.size (inb 5))).write (Elt F) (
    (scratch.access (Rect.unit (s := S2x6x85x8x256) (off 4) S1x1x85x1x256.size (inb 4))).write (Elt F) (
    (scratch.access (Rect.unit (s := S2x6x85x8x256) (off 3) S1x1x85x1x256.size (inb 3))).write (Elt F) (
    (scratch.access (Rect.unit (s := S2x6x85x8x256) (off 2) S1x1x85x1x256.size (inb 2))).write (Elt F) (
    (scratch.access (Rect.unit (s := S2x6x85x8x256) (off 1) S1x1x85x1x256.size (inb 1))).write (Elt F) (
    (scratch.access (Rect.unit (s := S2x6x85x8x256) (off 0) S1x1x85x1x256.size (inb 0))).write (Elt F) f (p 0) Finset.univ) (p 1) Finset.univ) (p 2) Finset.univ) (p 3) Finset.univ) (p 4) Finset.univ) (p 5) Finset.univ) (p 6) Finset.univ) (p 7) Finset.univ

set_option maxHeartbeats 800000 in
/-- EIGHT STORES, one to each row, leave the eight strips in the tile. -/
theorem read_tile_eight (g : Fin 2) (a : Fin 6) (f : (scratch.view.ty).Contents (Elt F))
    (off : Fin 8 → Fin 5 → Nat) (inb : ∀ n x, off n x + S1x1x85x1x256.size x ≤ S2x6x85x8x256.size x)
    (h : ∀ n : Fin 8, off n = ![g.val, a.val, 0, n.val, 0]) (p : Fin 8 → Vec F S1x1x85x1x256 .f32) :
    (tile g a).view.read (Elt F) (fill off inb p f) = tileOf p := by
  unfold fill
  funext y
  obtain ⟨k, n, l, rfl⟩ : ∃ (k : Fin 85) (n : Fin 8) (l : Fin 256), y = ix3 k n l := ⟨y 0, y 1, y 2, eq_ix3 y⟩
  show _ = p n _
  match n with
  | 0 =>
    refine (read_store_other g a 7 _ (inb 7) (p 7) (h 7) 0 (by decide) k l).trans ?_
    refine (read_store_other g a 6 _ (inb 6) (p 6) (h 6) 0 (by decide) k l).trans ?_
    refine (read_store_other g a 5 _ (inb 5) (p 5) (h 5) 0 (by decide) k l).trans ?_
    refine (read_store_other g a 4 _ (inb 4) (p 4) (h 4) 0 (by decide) k l).trans ?_
    refine (read_store_other g a 3 _ (inb 3) (p 3) (h 3) 0 (by decide) k l).trans ?_
    refine (read_store_other g a 2 _ (inb 2) (p 2) (h 2) 0 (by decide) k l).trans ?_
    refine (read_store_other g a 1 _ (inb 1) (p 1) (h 1) 0 (by decide) k l).trans ?_
    exact read_store_same g a 0 _ (inb 0) (p 0) (h 0) k l
  | 1 =>
    refine (read_store_other g a 7 _ (inb 7) (p 7) (h 7) 1 (by decide) k l).trans ?_
    refine (read_store_other g a 6 _ (inb 6) (p 6) (h 6) 1 (by decide) k l).trans ?_
    refine (read_store_other g a 5 _ (inb 5) (p 5) (h 5) 1 (by decide) k l).trans ?_
    refine (read_store_other g a 4 _ (inb 4) (p 4) (h 4) 1 (by decide) k l).trans ?_
    refine (read_store_other g a 3 _ (inb 3) (p 3) (h 3) 1 (by decide) k l).trans ?_
    refine (read_store_other g a 2 _ (inb 2) (p 2) (h 2) 1 (by decide) k l).trans ?_
    exact read_store_same g a 1 _ (inb 1) (p 1) (h 1) k l
  | 2 =>
    refine (read_store_other g a 7 _ (inb 7) (p 7) (h 7) 2 (by decide) k l).trans ?_
    refine (read_store_other g a 6 _ (inb 6) (p 6) (h 6) 2 (by decide) k l).trans ?_
    refine (read_store_other g a 5 _ (inb 5) (p 5) (h 5) 2 (by decide) k l).trans ?_
    refine (read_store_other g a 4 _ (inb 4) (p 4) (h 4) 2 (by decide) k l).trans ?_
    refine (read_store_other g a 3 _ (inb 3) (p 3) (h 3) 2 (by decide) k l).trans ?_
    exact read_store_same g a 2 _ (inb 2) (p 2) (h 2) k l
  | 3 =>
    refine (read_store_other g a 7 _ (inb 7) (p 7) (h 7) 3 (by decide) k l).trans ?_
    refine (read_store_other g a 6 _ (inb 6) (p 6) (h 6) 3 (by decide) k l).trans ?_
    refine (read_store_other g a 5 _ (inb 5) (p 5) (h 5) 3 (by decide) k l).trans ?_
    refine (read_store_other g a 4 _ (inb 4) (p 4) (h 4) 3 (by decide) k l).trans ?_
    exact read_store_same g a 3 _ (inb 3) (p 3) (h 3) k l
  | 4 =>
    refine (read_store_other g a 7 _ (inb 7) (p 7) (h 7) 4 (by decide) k l).trans ?_
    refine (read_store_other g a 6 _ (inb 6) (p 6) (h 6) 4 (by decide) k l).trans ?_
    refine (read_store_other g a 5 _ (inb 5) (p 5) (h 5) 4 (by decide) k l).trans ?_
    exact read_store_same g a 4 _ (inb 4) (p 4) (h 4) k l
  | 5 =>
    refine (read_store_other g a 7 _ (inb 7) (p 7) (h 7) 5 (by decide) k l).trans ?_
    refine (read_store_other g a 6 _ (inb 6) (p 6) (h 6) 5 (by decide) k l).trans ?_
    exact read_store_same g a 5 _ (inb 5) (p 5) (h 5) k l
  | 6 =>
    refine (read_store_other g a 7 _ (inb 7) (p 7) (h 7) 6 (by decide) k l).trans ?_
    exact read_store_same g a 6 _ (inb 6) (p 6) (h 6) k l
  | 7 =>
    exact read_store_same g a 7 _ (inb 7) (p 7) (h 7) k l
end Tiles

/-! ## The loads -/

/-- A load of one of the eight blocks through a whole staging buffer reads that block. -/
theorem load_block (M : Memref sig .tc .vmem S8x4x64x510 .f32) (hM : M.IsWhole) (x : Vec F S8x4x64x510 .f32) (n : Fin 8)
    (inb : ∀ d, (![n.val, 0, 0, 0] : Fin 4 → Nat) d + S1x4x64x510.size d ≤ S8x4x64x510.size d) :
    View.readAt (Elt F) M.view (Rect.unit (s := S8x4x64x510) ![n.val, 0, 0, 0] S1x4x64x510.size inb).toLoadRect
      (hM.unread x) = blockAt n x := by
  funext i
  rw [hM.readAt_unread]
  unfold blockAt
  refine congrArg x ?_
  funext d
  refine Fin.ext ?_
  have h0 : (i 0).val = 0 := by have := (i 0).isLt; change (i 0).val < 1 at this; omega
  fin_cases d <;> simp [Rect.toLoadRect, Rect.unit, LoadRect.idx, h0]

end Cert.KernelIdeal.Decode

end
-- ==== Proof.Families.lean ====
/-
  WHAT THE PROOF HOLDS OF THE SCHEME: tiles, cells, pieces and copies in flight as assertions, each over a step's six
  anchors; a copy in flight and a copied piece carry the values they deliver. And what one step's copies deliver.
-/
module

public import proofs.«01_k».proof.Proof.Block

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (c : Dev nD)

/-- The contents of a memref's buffer on core `c`. -/
abbrev Held {sp : Space} {S : Shape} {e : EltTy} (M : Memref sig .tc sp S e) : Type := Buf (Elt F) (M.view.loc (c : Thread nD τ))
/-- Tile `(g, a)` held at `e`. -/
abbrev tileP (g : Fin 2) (a : Fin 6) (e : Held (F := F) c (tile g a)) : sProp 𝕄 :=
  (tile g a).view.loc (c : Thread nD τ) ↦[(tile g a).view.set]{fullShare} e
/-- Cell `(g, a)` at zero. -/
abbrev cellP (g : Fin 2) (a : Fin 6) : sProp 𝕄 := semVal ((c : Thread nD τ), cell g a) 0
/-- Piece `(u, a)` held at `f`. -/
abbrev pieceP (u : Fin 32) (a : Fin 6) (f : Held (F := F) c (piece u a)) : sProp 𝕄 :=
  (piece u a).view.loc (c : Thread nD τ) ↦[(piece u a).view.set]{fullShare} f
/-- Piece `(u, a)` held, reading `w`. -/
abbrev pieceV (u : Fin 32) (a : Fin 6) (w : Vec F S85x8x256 .f32) : sProp 𝕄 :=
  iprop(∃ f, ⌜(piece u a).view.read (Elt F) f = w⌝ ∗ pieceP c u a f)
/-- Tile `(g, a)`'s copy to piece `(u, a)` in flight; when it lands the piece reads `w`. -/
abbrev flightV (g : Fin 2) (a : Fin 6) (u : Fin 32) (w : Vec F S85x8x256 .f32) : sProp 𝕄 :=
  iprop(∃ f e, ⌜(piece u a).view.read (Elt F) f = w⌝ ∗ Transfers.Flight countersEmb (c : Thread nD τ) (cell g a) default
    ((piece u a).view.amount (cell g a)) iprop(pieceP c u a f ∗ tileP c g a e))
/-- An assertion for each of the six anchors. -/
abbrev six (P : Fin 6 → sProp 𝕄) : sProp 𝕄 := iprop(P 0 ∗ P 1 ∗ P 2 ∗ P 3 ∗ P 4 ∗ P 5)
/-- Step `u`'s pieces at anything: not copied yet. -/
abbrev ahead (u : Fin 32) : sProp 𝕄 := six fun a => iprop(∃ f, pieceP (F := F) c u a f)
/-- Group `g` at rest. -/
abbrev free (g : Fin 2) : sProp 𝕄 := six fun a => iprop(cellP (F := F) c g a ∗ ∃ e, tileP (F := F) c g a e)
/-- Group `g` in flight with step `u`'s copies. -/
abbrev infl (v : Fin 32 → Fin 6 → Vec F S85x8x256 .f32) (g : Fin 2) (u : Fin 32) : sProp 𝕄 :=
  six fun a => flightV c g a u (v u a)
/-- Step `u`'s pieces copied. -/
abbrev behind (v : Fin 32 → Fin 6 → Vec F S85x8x256 .f32) (u : Fin 32) : sProp 𝕄 := six fun a => pieceV c u a (v u a)

/-! ## What one step's copies deliver -/

/-- An image block lies inside the block of eight. -/
theorem block_inb (n : Fin 8) : ∀ d, (![n.val, 0, 0, 0] : Fin 4 → Nat) d + S1x4x64x510.size d ≤ S8x4x64x510.size d := by
  intro d
  have hn := n.isLt
  fin_cases d <;> simp <;> omega

/-- A piece a whole tile was copied to reads what the tile read. -/
theorem sent (g : Fin 2) (u : Fin 32) (a : Fin 6) (f : Held (F := F) c (piece u a)) (e : Held (F := F) c (tile g a))
    (w : Vec F S85x8x256 .f32) (h : (tile g a).view.read (Elt F) e = w) :
    (piece u a).view.read (Elt F) ((piece u a).view.writes (Elt F) f
      [⟨Rect.whole S85x8x256, ReadAs.same.apply ((tile g a).view.read (Elt F) e)⟩]) = w :=
  (View.read_writes_whole (piece u a).view f _).trans h

/-- The offsets of the eight stores into anchor 0's tile. -/
def offs0 (t : Fin grid0.N) : Fin 8 → Fin 5 → Nat
  | 0 => k0_off13 (grid0.coords t)
  | 1 => k0_off19 (grid0.coords t)
  | 2 => k0_off25 (grid0.coords t)
  | 3 => k0_off31 (grid0.coords t)
  | 4 => k0_off37 (grid0.coords t)
  | 5 => k0_off43 (grid0.coords t)
  | 6 => k0_off49 (grid0.coords t)
  | 7 => k0_off55 (grid0.coords t)
/-- Anchor 0's eight stored blocks lie inside the scratch. -/
theorem offs0_inb (t : Fin grid0.N) : ∀ n x, offs0 t n x + S1x1x85x1x256.size x ≤ S2x6x85x8x256.size x
  | 0 => k0_off13_inb (grid0.coords t)
  | 1 => k0_off19_inb (grid0.coords t)
  | 2 => k0_off25_inb (grid0.coords t)
  | 3 => k0_off31_inb (grid0.coords t)
  | 4 => k0_off37_inb (grid0.coords t)
  | 5 => k0_off43_inb (grid0.coords t)
  | 6 => k0_off49_inb (grid0.coords t)
  | 7 => k0_off55_inb (grid0.coords t)
/-- They are the rows of anchor 0's tile. -/
theorem offs0_eq (t : Fin grid0.N) : ∀ n : Fin 8, offs0 t n = ![(Ring.sl 2 t.val).val, ((0 : Fin 6)).val, 0, n.val, 0]
  | 0 => off13_eq t
  | 1 => off19_eq t
  | 2 => off25_eq t
  | 3 => off31_eq t
  | 4 => off37_eq t
  | 5 => off43_eq t
  | 6 => off49_eq t
  | 7 => off55_eq t

/-- The offsets of the eight stores into anchor 1's tile. -/
def offs1 (t : Fin grid0.N) : Fin 8 → Fin 5 → Nat
  | 0 => k0_off14 (grid0.coords t)
  | 1 => k0_off20 (grid0.coords t)
  | 2 => k0_off26 (grid0.coords t)
  | 3 => k0_off32 (grid0.coords t)
  | 4 => k0_off38 (grid0.coords t)
  | 5 => k0_off44 (grid0.coords t)
  | 6 => k0_off50 (grid0.coords t)
  | 7 => k0_off56 (grid0.coords t)
/-- Anchor 1's eight stored blocks lie inside the scratch. -/
theorem offs1_inb (t : Fin grid0.N) : ∀ n x, offs1 t n x + S1x1x85x1x256.size x ≤ S2x6x85x8x256.size x
  | 0 => k0_off14_inb (grid0.coords t)
  | 1 => k0_off20_inb (grid0.coords t)
  | 2 => k0_off26_inb (grid0.coords t)
  | 3 => k0_off32_inb (grid0.coords t)
  | 4 => k0_off38_inb (grid0.coords t)
  | 5 => k0_off44_inb (grid0.coords t)
  | 6 => k0_off50_inb (grid0.coords t)
  | 7 => k0_off56_inb (grid0.coords t)
/-- They are the rows of anchor 1's tile. -/
theorem offs1_eq (t : Fin grid0.N) : ∀ n : Fin 8, offs1 t n = ![(Ring.sl 2 t.val).val, ((1 : Fin 6)).val, 0, n.val, 0]
  | 0 => off14_eq t
  | 1 => off20_eq t
  | 2 => off26_eq t
  | 3 => off32_eq t
  | 4 => off38_eq t
  | 5 => off44_eq t
  | 6 => off50_eq t
  | 7 => off56_eq t

/-- The offsets of the eight stores into anchor 2's tile. -/
def offs2 (t : Fin grid0.N) : Fin 8 → Fin 5 → Nat
  | 0 => k0_off15 (grid0.coords t)
  | 1 => k0_off21 (grid0.coords t)
  | 2 => k0_off27 (grid0.coords t)
  | 3 => k0_off33 (grid0.coords t)
  | 4 => k0_off39 (grid0.coords t)
  | 5 => k0_off45 (grid0.coords t)
  | 6 => k0_off51 (grid0.coords t)
  | 7 => k0_off57 (grid0.coords t)
/-- Anchor 2's eight stored blocks lie inside the scratch. -/
theorem offs2_inb (t : Fin grid0.N) : ∀ n x, offs2 t n x + S1x1x85x1x256.size x ≤ S2x6x85x8x256.size x
  | 0 => k0_off15_inb (grid0.coords t)
  | 1 => k0_off21_inb (grid0.coords t)
  | 2 => k0_off27_inb (grid0.coords t)
  | 3 => k0_off33_inb (grid0.coords t)
  | 4 => k0_off39_inb (grid0.coords t)
  | 5 => k0_off45_inb (grid0.coords t)
  | 6 => k0_off51_inb (grid0.coords t)
  | 7 => k0_off57_inb (grid0.coords t)
/-- They are the rows of anchor 2's tile. -/
theorem offs2_eq (t : Fin grid0.N) : ∀ n : Fin 8, offs2 t n = ![(Ring.sl 2 t.val).val, ((2 : Fin 6)).val, 0, n.val, 0]
  | 0 => off15_eq t
  | 1 => off21_eq t
  | 2 => off27_eq t
  | 3 => off33_eq t
  | 4 => off39_eq t
  | 5 => off45_eq t
  | 6 => off51_eq t
  | 7 => off57_eq t

/-- The offsets of the eight stores into anchor 3's tile. -/
def offs3 (t : Fin grid0.N) : Fin 8 → Fin 5 → Nat
  | 0 => k0_off16 (grid0.coords t)
  | 1 => k0_off22 (grid0.coords t)
  | 2 => k0_off28 (grid0.coords t)
  | 3 => k0_off34 (grid0.coords t)
  | 4 => k0_off40 (grid0.coords t)
  | 5 => k0_off46 (grid0.coords t)
  | 6 => k0_off52 (grid0.coords t)
  | 7 => k0_off58 (grid0.coords t)
/-- Anchor 3's eight stored blocks lie inside the scratch. -/
theorem offs3_inb (t : Fin grid0.N) : ∀ n x, offs3 t n x + S1x1x85x1x256.size x ≤ S2x6x85x8x256.size x
  | 0 => k0_off16_inb (grid0.coords t)
  | 1 => k0_off22_inb (grid0.coords t)
  | 2 => k0_off28_inb (grid0.coords t)
  | 3 => k0_off34_inb (grid0.coords t)
  | 4 => k0_off40_inb (grid0.coords t)
  | 5 => k0_off46_inb (grid0.coords t)
  | 6 => k0_off52_inb (grid0.coords t)
  | 7 => k0_off58_inb (grid0.coords t)
/-- They are the rows of anchor 3's tile. -/
theorem offs3_eq (t : Fin grid0.N) : ∀ n : Fin 8, offs3 t n = ![(Ring.sl 2 t.val).val, ((3 : Fin 6)).val, 0, n.val, 0]
  | 0 => off16_eq t
  | 1 => off22_eq t
  | 2 => off28_eq t
  | 3 => off34_eq t
  | 4 => off40_eq t
  | 5 => off46_eq t
  | 6 => off52_eq t
  | 7 => off58_eq t

/-- The offsets of the eight stores into anchor 4's tile. -/
def offs4 (t : Fin grid0.N) : Fin 8 → Fin 5 → Nat
  | 0 => k0_off17 (grid0.coords t)
  | 1 => k0_off23 (grid0.coords t)
  | 2 => k0_off29 (grid0.coords t)
  | 3 => k0_off35 (grid0.coords t)
  | 4 => k0_off41 (grid0.coords t)
  | 5 => k0_off47 (grid0.coords t)
  | 6 => k0_off53 (grid0.coords t)
  | 7 => k0_off59 (grid0.coords t)
/-- Anchor 4's eight stored blocks lie inside the scratch. -/
theorem offs4_inb (t : Fin grid0.N) : ∀ n x, offs4 t n x + S1x1x85x1x256.size x ≤ S2x6x85x8x256.size x
  | 0 => k0_off17_inb (grid0.coords t)
  | 1 => k0_off23_inb (grid0.coords t)
  | 2 => k0_off29_inb (grid0.coords t)
  | 3 => k0_off35_inb (grid0.coords t)
  | 4 => k0_off41_inb (grid0.coords t)
  | 5 => k0_off47_inb (grid0.coords t)
  | 6 => k0_off53_inb (grid0.coords t)
  | 7 => k0_off59_inb (grid0.coords t)
/-- They are the rows of anchor 4's tile. -/
theorem offs4_eq (t : Fin grid0.N) : ∀ n : Fin 8, offs4 t n = ![(Ring.sl 2 t.val).val, ((4 : Fin 6)).val, 0, n.val, 0]
  | 0 => off17_eq t
  | 1 => off23_eq t
  | 2 => off29_eq t
  | 3 => off35_eq t
  | 4 => off41_eq t
  | 5 => off47_eq t
  | 6 => off53_eq t
  | 7 => off59_eq t

/-- The offsets of the eight stores into anchor 5's tile. -/
def offs5 (t : Fin grid0.N) : Fin 8 → Fin 5 → Nat
  | 0 => k0_off18 (grid0.coords t)
  | 1 => k0_off24 (grid0.coords t)
  | 2 => k0_off30 (grid0.coords t)
  | 3 => k0_off36 (grid0.coords t)
  | 4 => k0_off42 (grid0.coords t)
  | 5 => k0_off48 (grid0.coords t)
  | 6 => k0_off54 (grid0.coords t)
  | 7 => k0_off60 (grid0.coords t)
/-- Anchor 5's eight stored blocks lie inside the scratch. -/
theorem offs5_inb (t : Fin grid0.N) : ∀ n x, offs5 t n x + S1x1x85x1x256.size x ≤ S2x6x85x8x256.size x
  | 0 => k0_off18_inb (grid0.coords t)
  | 1 => k0_off24_inb (grid0.coords t)
  | 2 => k0_off30_inb (grid0.coords t)
  | 3 => k0_off36_inb (grid0.coords t)
  | 4 => k0_off42_inb (grid0.coords t)
  | 5 => k0_off48_inb (grid0.coords t)
  | 6 => k0_off54_inb (grid0.coords t)
  | 7 => k0_off60_inb (grid0.coords t)
/-- They are the rows of anchor 5's tile. -/
theorem offs5_eq (t : Fin grid0.N) : ∀ n : Fin 8, offs5 t n = ![(Ring.sl 2 t.val).val, ((5 : Fin 6)).val, 0, n.val, 0]
  | 0 => off18_eq t
  | 1 => off24_eq t
  | 2 => off30_eq t
  | 3 => off36_eq t
  | 4 => off42_eq t
  | 5 => off48_eq t
  | 6 => off54_eq t
  | 7 => off60_eq t

/-- Eight strips made from the eight loaded blocks are the step's tile. -/
theorem tileOf_loads (t : Fin grid0.N) (a : Fin 6) (A : Memref sig .tc .vmem S8x4x64x510 .f32) (hA : A.IsWhole)
    (x : Vec F S8x4x64x510 .f32) :
    tileOf (fun n : Fin 8 => stored t a (View.readAt (Elt F) A.view
      (Rect.unit (s := S8x4x64x510) ![n.val, 0, 0, 0] S1x4x64x510.size (block_inb n)).toLoadRect (hA.unread x)))
      = tileVal t x a := by
  unfold tileVal
  refine congrArg tileOf (funext fun n => congrArg (stored t a) ?_)
  exact load_block A hA x n (block_inb n)

/-- After the eight stores into anchor 0's tile, it reads the step's values. -/
theorem filled0 (t : Fin grid0.N) (A : Memref sig .tc .vmem S8x4x64x510 .f32) (hA : A.IsWhole) (x : Vec F S8x4x64x510 .f32)
    (e : (scratch.view.ty).Contents (Elt F)) :
    (tile (Ring.sl 2 t.val) 0).view.read (Elt F) (fill (offs0 t) (offs0_inb t) (fun n : Fin 8 =>
      stored t 0 (View.readAt (Elt F) A.view
        (Rect.unit (s := S8x4x64x510) ![n.val, 0, 0, 0] S1x4x64x510.size (block_inb n)).toLoadRect (hA.unread x))) e)
      = tileVal t x 0 :=
  (read_tile_eight (F := F) (Ring.sl 2 t.val) 0 e (offs0 t) (offs0_inb t) (offs0_eq t) _).trans (tileOf_loads t 0 A hA x)

/-- After the eight stores into anchor 1's tile, it reads the step's values. -/
theorem filled1 (t : Fin grid0.N) (A : Memref sig .tc .vmem S8x4x64x510 .f32) (hA : A.IsWhole) (x : Vec F S8x4x64x510 .f32)
    (e : (scratch.view.ty).Contents (Elt F)) :
    (tile (Ring.sl 2 t.val) 1).view.read (Elt F) (fill (offs1 t) (offs1_inb t) (fun n : Fin 8 =>
      stored t 1 (View.readAt (Elt F) A.view
        (Rect.unit (s := S8x4x64x510) ![n.val, 0, 0, 0] S1x4x64x510.size (block_inb n)).toLoadRect (hA.unread x))) e)
      = tileVal t x 1 :=
  (read_tile_eight (F := F) (Ring.sl 2 t.val) 1 e (offs1 t) (offs1_inb t) (offs1_eq t) _).trans (tileOf_loads t 1 A hA x)

/-- After the eight stores into anchor 2's tile, it reads the step's values. -/
theorem filled2 (t : Fin grid0.N) (A : Memref sig .tc .vmem S8x4x64x510 .f32) (hA : A.IsWhole) (x : Vec F S8x4x64x510 .f32)
    (e : (scratch.view.ty).Contents (Elt F)) :
    (tile (Ring.sl 2 t.val) 2).view.read (Elt F) (fill (offs2 t) (offs2_inb t) (fun n : Fin 8 =>
      stored t 2 (View.readAt (Elt F) A.view
        (Rect.unit (s := S8x4x64x510) ![n.val, 0, 0, 0] S1x4x64x510.size (block_inb n)).toLoadRect (hA.unread x))) e)
      = tileVal t x 2 :=
  (read_tile_eight (F := F) (Ring.sl 2 t.val) 2 e (offs2 t) (offs2_inb t) (offs2_eq t) _).trans (tileOf_loads t 2 A hA x)

/-- After the eight stores into anchor 3's tile, it reads the step's values. -/
theorem filled3 (t : Fin grid0.N) (A : Memref sig .tc .vmem S8x4x64x510 .f32) (hA : A.IsWhole) (x : Vec F S8x4x64x510 .f32)
    (e : (scratch.view.ty).Contents (Elt F)) :
    (tile (Ring.sl 2 t.val) 3).view.read (Elt F) (fill (offs3 t) (offs3_inb t) (fun n : Fin 8 =>
      stored t 3 (View.readAt (Elt F) A.view
        (Rect.unit (s := S8x4x64x510) ![n.val, 0, 0, 0] S1x4x64x510.size (block_inb n)).toLoadRect (hA.unread x))) e)
      = tileVal t x 3 :=
  (read_tile_eight (F := F) (Ring.sl 2 t.val) 3 e (offs3 t) (offs3_inb t) (offs3_eq t) _).trans (tileOf_loads t 3 A hA x)

/-- After the eight stores into anchor 4's tile, it reads the step's values. -/
theorem filled4 (t : Fin grid0.N) (A : Memref sig .tc .vmem S8x4x64x510 .f32) (hA : A.IsWhole) (x : Vec F S8x4x64x510 .f32)
    (e : (scratch.view.ty).Contents (Elt F)) :
    (tile (Ring.sl 2 t.val) 4).view.read (Elt F) (fill (offs4 t) (offs4_inb t) (fun n : Fin 8 =>
      stored t 4 (View.readAt (Elt F) A.view
        (Rect.unit (s := S8x4x64x510) ![n.val, 0, 0, 0] S1x4x64x510.size (block_inb n)).toLoadRect (hA.unread x))) e)
      = tileVal t x 4 :=
  (read_tile_eight (F := F) (Ring.sl 2 t.val) 4 e (offs4 t) (offs4_inb t) (offs4_eq t) _).trans (tileOf_loads t 4 A hA x)

/-- After the eight stores into anchor 5's tile, it reads the step's values. -/
theorem filled5 (t : Fin grid0.N) (A : Memref sig .tc .vmem S8x4x64x510 .f32) (hA : A.IsWhole) (x : Vec F S8x4x64x510 .f32)
    (e : (scratch.view.ty).Contents (Elt F)) :
    (tile (Ring.sl 2 t.val) 5).view.read (Elt F) (fill (offs5 t) (offs5_inb t) (fun n : Fin 8 =>
      stored t 5 (View.readAt (Elt F) A.view
        (Rect.unit (s := S8x4x64x510) ![n.val, 0, 0, 0] S1x4x64x510.size (block_inb n)).toLoadRect (hA.unread x))) e)
      = tileVal t x 5 :=
  (read_tile_eight (F := F) (Ring.sl 2 t.val) 5 e (offs5 t) (offs5_inb t) (offs5_eq t) _).trans (tileOf_loads t 5 A hA x)

end Cert.KernelIdeal.Decode

end
-- ==== Proof.Placement.lean ====
/-
  HOW THE KERNEL'S BUFFERS ARE CUT. The scratch is exactly its twelve tiles, the result exactly its 192 pieces, so a launch
  hands over every tile and piece, and pieces holding given values join to one array of those values: `gathered`.
-/
module

public import proofs.«01_k».proof.Proof.Families
public import Idealize.ShloMosaic.Lib.ViewIndex

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

open Idealize.ShloMosaic.ValueIdx

/-! ## The tiles -/

abbrev tileOff (i : Fin 2 × Fin 6) : Fin 5 → Nat := ![i.1.val, i.2.val, 0, 0, 0]
/-- A tile lies inside the scratch. -/
theorem tileOff_inb (i : Fin 2 × Fin 6) : ∀ x, tileOff i x + S1x1x85x8x256.size x ≤ S2x6x85x8x256.size x := tile_inb i.1 i.2
/-- The scratch elements of a tile. -/
abbrev tileSet (i : Fin 2 × Fin 6) : Finset S2x6x85x8x256.Idx :=
  (Rect.unit (s := S2x6x85x8x256) (tileOff i) S1x1x85x8x256.size (tileOff_inb i)).set
/-- A tile's elements. -/
theorem tileSet_eq (g : Fin 2) (a : Fin 6) : (tile g a).view.set = tileSet (g, a) := by
  simp only [tile, Memref.view_squeeze, View.set_reshape]; exact View.set_slice_whole _ _
/-- Which tile a scratch element lies in. -/
def tileBox (v : Fin 5 → ℕ) : Fin 2 × Fin 6 := (Fin.ofNat 2 (v 0), Fin.ofNat 6 (v 1))
/-- Two different tiles share no element. -/
theorem tiles_disjoint (i i' : Fin 2 × Fin 6) (h : i ≠ i') : Disjoint (tileSet i) (tileSet i') :=
  Ring.boxes_disjoint (s := S2x6x85x8x256) S1x1x85x8x256.size tileOff tileOff_inb tileOff
    (fun i x => by fin_cases x <;> simp [tileOff] <;> omega) tileBox (by decide +kernel) i i' h
/-- Every scratch element lies in a tile. -/
theorem tiles_cover : Finset.univ.biUnion tileSet = Finset.univ := by
  refine Finset.eq_univ_iff_forall.mpr fun j => Finset.mem_biUnion.mpr ⟨(j 0, j 1), Finset.mem_univ _, ?_⟩
  refine Rect.mem_set_unit.mpr fun x => ?_
  have h := (j x).isLt
  match x with
  | 0 => exact ⟨le_refl _, Nat.lt_succ_self _⟩
  | 1 => exact ⟨le_refl _, Nat.lt_succ_self _⟩
  | 2 => exact ⟨Nat.zero_le _, by simpa using h⟩
  | 3 => exact ⟨Nat.zero_le _, by simpa using h⟩
  | 4 => exact ⟨Nat.zero_le _, by simpa using h⟩

/-! ## The pieces -/

abbrev pieceOff (i : Fin 32 × Fin 6) : Fin 3 → Nat := ![0, 8 * (i.1.val / 16), 256 * (i.1.val % 16) + 4096 * i.2.val]
/-- A piece lies inside the result. -/
theorem pieceOff_inb (i : Fin 32 × Fin 6) : ∀ x, pieceOff i x + S85x8x256.size x ≤ S85x16x24576.size x := piece_inb i.1 i.2
/-- The result elements of a piece. -/
abbrev pieceSet (i : Fin 32 × Fin 6) : Finset S85x16x24576.Idx :=
  (Rect.unit (s := S85x16x24576) (pieceOff i) S85x8x256.size (pieceOff_inb i)).set
/-- A piece's elements. -/
theorem pieceSet_eq (u : Fin 32) (a : Fin 6) : (piece u a).view.set = pieceSet (u, a) := by
  simp only [piece]; exact View.set_slice_whole _ _
/-- Which step writes a result element. -/
def stepAt (j : S85x16x24576.Idx) : Fin 32 :=
  ⟨16 * ((j 1).val / 8) + (j 2).val % 4096 / 256, by have h : (j 1).val < 16 := (j 1).isLt; omega⟩
/-- Which anchor a result element belongs to. -/
def anchorAt (j : S85x16x24576.Idx) : Fin 6 :=
  ⟨(j 2).val / 4096, by have h : (j 2).val < 24576 := (j 2).isLt; omega⟩
/-- Where in its piece a result element lies. -/
def insideAt (j : S85x16x24576.Idx) : S85x8x256.Idx :=
  ix3 (⟨(j 0).val, (j 0).isLt⟩ : Fin 85) (⟨(j 1).val % 8, Nat.mod_lt _ (by decide)⟩ : Fin 8)
    (⟨(j 2).val % 256, Nat.mod_lt _ (by decide)⟩ : Fin 256)
/-- The piece at a grid position. -/
def pieceGrid (i : Fin 32 × Fin 6) : Fin 3 → ℕ := ![0, i.1.val / 16, i.1.val % 16 + 16 * i.2.val]
/-- Which piece a result element lies in. -/
def pieceBox (v : Fin 3 → ℕ) : Fin 32 × Fin 6 := (Fin.ofNat 32 (16 * v 1 + v 2 % 16), Fin.ofNat 6 (v 2 / 16))
/-- Two different pieces share no element. -/
theorem pieces_disjoint (i i' : Fin 32 × Fin 6) (h : i ≠ i') : Disjoint (pieceSet i) (pieceSet i') :=
  Ring.boxes_disjoint (s := S85x16x24576) S85x8x256.size pieceOff pieceOff_inb pieceGrid
    (fun i x => by fin_cases x <;> simp [pieceOff, pieceGrid] <;> omega) pieceBox (by decide +kernel) i i' h
/-- Every result element lies in the piece its step and anchor name. -/
theorem mem_pieceSet_at (j : S85x16x24576.Idx) : j ∈ pieceSet (stepAt j, anchorAt j) := by
  refine Rect.mem_set_unit.mpr fun x => ?_
  have h1 : (j 1).val < 16 := (j 1).isLt
  have h2 : (j 2).val < 24576 := (j 2).isLt
  match x with
  | 0 => exact ⟨Nat.zero_le _, by simpa using (j 0).isLt⟩
  | 1 =>
    show 8 * ((16 * ((j 1).val / 8) + (j 2).val % 4096 / 256) / 16) ≤ (j 1).val
      ∧ (j 1).val < 8 * ((16 * ((j 1).val / 8) + (j 2).val % 4096 / 256) / 16) + 8
    omega
  | 2 =>
    show 256 * ((16 * ((j 1).val / 8) + (j 2).val % 4096 / 256) % 16) + 4096 * ((j 2).val / 4096) ≤ (j 2).val
      ∧ (j 2).val < 256 * ((16 * ((j 1).val / 8) + (j 2).val % 4096 / 256) % 16) + 4096 * ((j 2).val / 4096) + 256
    omega
/-- Every result element lies in a piece. -/
theorem pieces_cover : Finset.univ.biUnion pieceSet = Finset.univ :=
  Finset.eq_univ_iff_forall.mpr fun j =>
    Finset.mem_biUnion.mpr ⟨(stepAt j, anchorAt j), Finset.mem_univ _, mem_pieceSet_at j⟩

/-- A piece reads the result at its offsets. -/
theorem read_piece (u : Fin 32) (a : Fin 6) (f : Vec F S85x16x24576 .f32) (y : S85x8x256.Idx) :
    (piece u a).view.read (Elt F) f y
      = f ((Rect.unit (s := S85x16x24576) (pieceOff (u, a)) S85x8x256.size (pieceOff_inb (u, a))).emb y) := rfl

/-- An element of a piece, by its step, its anchor and its place inside. -/
theorem of_mem_pieceSet (u : Fin 32) (a : Fin 6) (j : S85x16x24576.Idx) (h : j ∈ pieceSet (u, a)) :
    stepAt j = u ∧ anchorAt j = a
      ∧ (Rect.unit (s := S85x16x24576) (pieceOff (u, a)) S85x8x256.size (pieceOff_inb (u, a))).emb (insideAt j) = j := by
  have h := Rect.mem_set_unit.mp h
  have hu := u.isLt
  have ha := a.isLt
  have h1 : 8 * (u.val / 16) ≤ (j 1).val ∧ (j 1).val < 8 * (u.val / 16) + 8 := h 1
  have h2 : 256 * (u.val % 16) + 4096 * a.val ≤ (j 2).val
    ∧ (j 2).val < 256 * (u.val % 16) + 4096 * a.val + 256 := h 2
  refine ⟨Fin.ext ?_, Fin.ext ?_, ?_⟩
  · show 16 * ((j 1).val / 8) + (j 2).val % 4096 / 256 = u.val
    omega
  · show (j 2).val / 4096 = a.val
    omega
  · funext x
    refine Fin.ext ?_
    match x with
    | 0 => show 0 + 1 * (j 0).val = (j 0).val; omega
    | 1 => show 8 * (u.val / 16) + 1 * ((j 1).val % 8) = (j 1).val; omega
    | 2 => show 256 * (u.val % 16) + 4096 * a.val + 1 * ((j 2).val % 256) = (j 2).val; omega

/-- The array whose piece `(u, a)` holds `v u a`. -/
def gathered (v : Fin 32 → Fin 6 → Vec F S85x8x256 .f32) : Vec F S85x16x24576 .f32 :=
  fun j => v (stepAt j) (anchorAt j) (insideAt j)

/-- Contents that piece `(u, a)` reads as `v u a` are `gathered v` there. -/
theorem eq_gathered (v : Fin 32 → Fin 6 → Vec F S85x8x256 .f32) (u : Fin 32) (a : Fin 6) (f : Vec F S85x16x24576 .f32)
    (h : (piece u a).view.read (Elt F) f = v u a) (j : S85x16x24576.Idx) (hj : j ∈ pieceSet (u, a)) :
    f j = gathered v j := by
  obtain ⟨hu, ha, hi⟩ := of_mem_pieceSet u a j hj
  have e := (read_piece u a f (insideAt j)).symm.trans (congrFun h (insideAt j))
  rw [hi] at e
  unfold gathered
  rw [hu, ha]
  exact e

/-! ## What the launch hands over, and what comes back -/

variable (c : Dev nD)

/-- A tile's assertion, as one on its elements of the scratch. -/
theorem tileP_eq (g : Fin 2) (a : Fin 6) (e) :
    tileP (F := F) c g a e = (((c : Thread nD τ).loc cc0_scratch0) ↦[tileSet (g, a)]{fullShare} e : sProp 𝕄) := by
  unfold tileP; rw [tileSet_eq]; rfl
/-- A piece's assertion, as one on its elements of the result. -/
theorem pieceP_eq (u : Fin 32) (a : Fin 6) (f) :
    pieceP (F := F) c u a f = (((c : Thread nD τ).loc main_v1) ↦[pieceSet (u, a)]{fullShare} f : sProp 𝕄) := by
  unfold pieceP; rw [pieceSet_eq]; rfl

/-- A conjunction over the six anchors, listed. -/
theorem six_eq (P : Fin 6 → sProp 𝕄) : (bigSep Finset.univ P : sProp 𝕄) = six P := by
  rw [BI.bigSep_eq_bigSepL_of_eq [0, 1, 2, 3, 4, 5] (by decide) (by decide)]; rfl

/-- Anchor by anchor. -/
theorem six_mono {P Q : Fin 6 → sProp 𝕄} (h : ∀ a, P a ⊢ Q a) : six P ⊢ six Q := by
  iintro ⟨H0, H1, H2, H3, H4, H5⟩
  isplitl [H0]; · iapply (h 0); iexact H0
  isplitl [H1]; · iapply (h 1); iexact H1
  isplitl [H2]; · iapply (h 2); iexact H2
  isplitl [H3]; · iapply (h 3); iexact H3
  isplitl [H4]; · iapply (h 4); iexact H4
  iapply (h 5); iexact H5

/-- The scratch whole is its tiles; -/
theorem tiles_in : iprop(∃ f : Buf (Elt F) ((c : Thread nD τ).loc cc0_scratch0), ((c : Thread nD τ).loc cc0_scratch0) ↦{fullShare} f)
    ⊢ (bigSep Finset.univ (fun i : Fin 2 × Fin 6 => iprop(∃ e, tileP (F := F) c i.1 i.2 e)) : sProp 𝕄) :=
  Ring.pieces_split (U := Pipeline.UD sig nD τ) (ℓ := (c : Thread nD τ).loc cc0_scratch0) (q := fullShare) tileSet tiles_disjoint
    tiles_cover (fun i e => tileP c i.1 i.2 e) (fun i e => tileP_eq c i.1 i.2 e)
/-- and back. -/
theorem tiles_out (f₀ : Buf (Elt F) ((c : Thread nD τ).loc cc0_scratch0)) :
    (bigSep Finset.univ (fun i : Fin 2 × Fin 6 => iprop(∃ e, tileP (F := F) c i.1 i.2 e)) : sProp 𝕄)
      ⊢ iprop(∃ f : Buf (Elt F) ((c : Thread nD τ).loc cc0_scratch0), ((c : Thread nD τ).loc cc0_scratch0) ↦{fullShare} f) :=
  Ring.pieces_join (U := Pipeline.UD sig nD τ) (ℓ := (c : Thread nD τ).loc cc0_scratch0) (q := fullShare) tileSet tiles_disjoint
    tiles_cover (fun i e => tileP c i.1 i.2 e) (fun i e => tileP_eq c i.1 i.2 e) f₀

/-- The cells at zero and the tiles, regrouped: every group at rest. -/
theorem groups_eq : iprop(bigSep Finset.univ (fun i : Fin 2 × Fin 6 => cellP (F := F) c i.1 i.2)
      ∗ bigSep Finset.univ (fun i : Fin 2 × Fin 6 => iprop(∃ e, tileP (F := F) c i.1 i.2 e)))
    = (bigSep Finset.univ (free (F := F) c) : sProp 𝕄) :=
  (Ring.groups_of_parts (fun g a => cellP (F := F) c g a) (fun g a => iprop(∃ e, tileP (F := F) c g a e))).trans
    (BI.bigSep_congr fun g _ => six_eq _)

/-- The result whole is its pieces, none copied yet. -/
theorem pieces_in : iprop(∃ f : Buf (Elt F) ((c : Thread nD τ).loc main_v1), ((c : Thread nD τ).loc main_v1) ↦{fullShare} f)
    ⊢ (bigSep Finset.univ (ahead (F := F) c) : sProp 𝕄) := by
  refine (Ring.pieces_split (U := Pipeline.UD sig nD τ) (ℓ := (c : Thread nD τ).loc main_v1) (q := fullShare) pieceSet pieces_disjoint
    pieces_cover (fun i f => pieceP c i.1 i.2 f) (fun i f => pieceP_eq c i.1 i.2 f)).trans (Entails.of_eq ?_)
  rw [BI.bigSep_univ_prod]
  exact BI.bigSep_congr fun u _ => six_eq _

/-- A piece holding `v u a` is that part of `gathered v`. -/
theorem piece_gathered (v : Fin 32 → Fin 6 → Vec F S85x8x256 .f32) (u : Fin 32) (a : Fin 6) :
    pieceV c u a (v u a)
      ⊢ (((c : Thread nD τ).loc main_v1) ↦[pieceSet (u, a)]{fullShare} (gathered v : Buf (Elt F) ((c : Thread nD τ).loc main_v1)) : sProp 𝕄) := by
  iintro ⟨%f, %h, H⟩
  have e : pieceP (F := F) c u a f = (((c : Thread nD τ).loc main_v1) ↦[pieceSet (u, a)]{fullShare} (gathered v : Buf (Elt F) ((c : Thread nD τ).loc main_v1)) : sProp 𝕄) :=
    (pieceP_eq c u a f).trans (pointsTo_congr fun j hj => eq_gathered v u a f h j hj)
  iapply (Entails.of_eq e)
  iexact H

/-- All pieces copied are the result holding `gathered v`. -/
theorem pieces_out (v : Fin 32 → Fin 6 → Vec F S85x8x256 .f32) :
    (bigSep Finset.univ (behind c v) : sProp 𝕄)
      ⊢ ((c : Thread nD τ).loc main_v1) ↦{fullShare} (gathered v : Buf (Elt F) ((c : Thread nD τ).loc main_v1)) := by
  rw [Ring.pointsTo_blocks (ℓ := (c : Thread nD τ).loc main_v1) pieceSet pieces_disjoint pieces_cover, BI.bigSep_univ_prod]
  refine BI.bigSep_mono fun u _ => ?_
  rw [six_eq]
  exact six_mono fun a => piece_gathered c v u a

end Cert.KernelIdeal.Decode

end
-- ==== Proof.RunA.lean ====
/-
  THE BODY AT STEPS 0 AND 1: it waits for nothing, fills group `t % 2` and starts the six copies.
-/
module

public import proofs.«01_k».proof.Proof.Families

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 3016000 in
/-- The body at such a step, run on a whole staging buffer holding the step's blocks `x` and the step's pieces at anything:
    the six tiles at rest come back as six copies in flight, delivering the step's values. -/
theorem runA (c : Dev nD) (t : Fin cfg0.N) (A : Memref sig .tc .vmem S8x4x64x510 .f32) (hA : A.IsWhole)
    (hw : ¬waits (grid0.coords t)) (hd : ¬drains (grid0.coords t)) (x : Vec F S8x4x64x510 .f32)
    (W : Waits sig Unit) (K : PUnit → sProp 𝕄) :
    iprop(owns (c : Thread nD τ) A fullShare x ∗ ahead (F := F) c (Ring.bk 32 t.val) ∗ free (F := F) c (Ring.sl 2 t.val) ∗ owes (c : Thread nD τ) 0 W
        ∗ (iprop(owns (c : Thread nD τ) A fullShare x ∗ six (fun a => flightV c (Ring.sl 2 t.val) a (Ring.bk 32 t.val) (tileVal t x a)) ∗ (∃ W', owes (c : Thread nD τ) 0 W')) -∗ K ⟨⟩))
      ⊢ wp frame (wpE (defs₀ (F := F)) Variants.none c none) Set.univ
          (cc0__decode_kernel (grid0.coords t) A hA result (Memref.isWhole_whole _) scratch (Memref.isWhole_whole _) cc0_scratch1) K := by
  haveI : Fact (¬waits (grid0.coords t)) := ⟨hw⟩
  haveI : Fact (¬drains (grid0.coords t)) := ⟨hd⟩
  simp only [cc0__decode_kernel_eq_skeleton]; unfold cc0__decode_kernel_skel
  simp only [k0_part4_eq_skeleton, k0_part5_eq_skeleton, k0_part6_eq_skeleton, k0_part7_eq_skeleton,
      k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton,
      k0_part17_eq_skeleton, k0_part18_eq_skeleton, k0_part19_eq_skeleton, k0_part20_eq_skeleton,
      k0_part21_eq_skeleton, k0_part22_eq_skeleton, k0_part23_eq_skeleton, k0_part24_eq_skeleton,
      k0_part25_eq_skeleton, k0_part26_eq_skeleton, k0_part27_eq_skeleton, k0_part28_eq_skeleton,
      k0_part29_eq_skeleton, k0_part30_eq_skeleton, k0_part31_eq_skeleton, k0_part32_eq_skeleton,
      k0_part33_eq_skeleton, k0_part34_eq_skeleton, k0_part35_eq_skeleton, k0_part36_eq_skeleton]
  unfold owns
  iintro ⟨⟨%f, %hf, H⟩, ⟨⟨%p0, P0⟩, ⟨%p1, P1⟩, ⟨%p2, P2⟩, ⟨%p3, P3⟩, ⟨%p4, P4⟩, ⟨%p5, P5⟩⟩, ⟨⟨Q0, ⟨%e0, T0⟩⟩, ⟨Q1, ⟨%e1, T1⟩⟩, ⟨Q2, ⟨%e2, T2⟩⟩, ⟨Q3, ⟨%e3, T3⟩⟩, ⟨Q4, ⟨%e4, T4⟩⟩, ⟨Q5, ⟨%e5, T5⟩⟩⟩, HW, Hk⟩
  obtain rfl := hA.eq_unread hf
  sl_exec (disch := first | sl_exact hw | sl_exact hd)
  sl_step
  iapply Hk
  isplitl [H]
  · iexists _; isplitr; · ipureintro; exact hA.read_unread _
    iexact H
  isplitl [Q0 Q1 Q2 Q3 Q4 Q5]
  · isplitl [Q0]
    · iexists _, _; isplitr; on_goal 2 => iexact Q0
      ipureintro; exact sent c _ _ _ _ _ _ (filled0 t A hA x _)
    isplitl [Q1]
    · iexists _, _; isplitr; on_goal 2 => iexact Q1
      ipureintro; exact sent c _ _ _ _ _ _ (filled1 t A hA x _)
    isplitl [Q2]
    · iexists _, _; isplitr; on_goal 2 => iexact Q2
      ipureintro; exact sent c _ _ _ _ _ _ (filled2 t A hA x _)
    isplitl [Q3]
    · iexists _, _; isplitr; on_goal 2 => iexact Q3
      ipureintro; exact sent c _ _ _ _ _ _ (filled3 t A hA x _)
    isplitl [Q4]
    · iexists _, _; isplitr; on_goal 2 => iexact Q4
      ipureintro; exact sent c _ _ _ _ _ _ (filled4 t A hA x _)
    iexists _, _; isplitr; on_goal 2 => iexact Q5
    ipureintro; exact sent c _ _ _ _ _ _ (filled5 t A hA x _)
  iexists _; iexact HW

end Cert.KernelIdeal.Decode

end
-- ==== Proof.RunB.lean ====
/-
  THE BODY AT STEPS 2 … 30: it waits for the copies of two steps back, refills their group and starts the six copies.
-/
module

public import proofs.«01_k».proof.Proof.RunA

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 3176000 in
/-- The body at such a step, run on a whole staging buffer holding the step's blocks `x` and the step's pieces at anything:
    the six pieces of two steps back arrive with their values, and the step's own six copies are in flight. -/
theorem runB (c : Dev nD) (t : Fin cfg0.N) (A : Memref sig .tc .vmem S8x4x64x510 .f32) (hA : A.IsWhole)
    (hw : waits (grid0.coords t)) (hd : ¬drains (grid0.coords t)) (x : Vec F S8x4x64x510 .f32)
    (v : Fin 32 → Fin 6 → Vec F S85x8x256 .f32)
    (W : Waits sig Unit) (K : PUnit → sProp 𝕄) :
    iprop(owns (c : Thread nD τ) A fullShare x ∗ ahead (F := F) c (Ring.bk 32 t.val) ∗ infl c v (Ring.sl 2 t.val) (Ring.bk 32 (t.val - 2)) ∗ owes (c : Thread nD τ) 0 W
        ∗ (iprop(owns (c : Thread nD τ) A fullShare x ∗ behind c v (Ring.bk 32 (t.val - 2)) ∗ six (fun a => flightV c (Ring.sl 2 t.val) a (Ring.bk 32 t.val) (tileVal t x a)) ∗ (∃ W', owes (c : Thread nD τ) 0 W')) -∗ K ⟨⟩))
      ⊢ wp frame (wpE (defs₀ (F := F)) Variants.none c none) Set.univ
          (cc0__decode_kernel (grid0.coords t) A hA result (Memref.isWhole_whole _) scratch (Memref.isWhole_whole _) cc0_scratch1) K := by
  haveI : Fact (waits (grid0.coords t)) := ⟨hw⟩
  haveI : Fact (¬drains (grid0.coords t)) := ⟨hd⟩
  simp only [cc0__decode_kernel_eq_skeleton]; unfold cc0__decode_kernel_skel
  simp only [k0_part4_eq_skeleton, k0_part1_eq_skeleton, k0_part5_eq_skeleton, k0_part6_eq_skeleton,
      k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton,
      k0_part16_eq_skeleton, k0_part17_eq_skeleton, k0_part18_eq_skeleton, k0_part19_eq_skeleton,
      k0_part20_eq_skeleton, k0_part21_eq_skeleton, k0_part22_eq_skeleton, k0_part23_eq_skeleton,
      k0_part24_eq_skeleton, k0_part25_eq_skeleton, k0_part26_eq_skeleton, k0_part27_eq_skeleton,
      k0_part28_eq_skeleton, k0_part29_eq_skeleton, k0_part30_eq_skeleton, k0_part31_eq_skeleton,
      k0_part32_eq_skeleton, k0_part33_eq_skeleton, k0_part34_eq_skeleton, k0_part35_eq_skeleton,
      k0_part36_eq_skeleton]
  unfold owns
  iintro ⟨⟨%f, %hf, H⟩, ⟨⟨%p0, P0⟩, ⟨%p1, P1⟩, ⟨%p2, P2⟩, ⟨%p3, P3⟩, ⟨%p4, P4⟩, ⟨%p5, P5⟩⟩, ⟨⟨%f0, %e0, %hF0, F0⟩, ⟨%f1, %e1, %hF1, F1⟩, ⟨%f2, %e2, %hF2, F2⟩, ⟨%f3, %e3, %hF3, F3⟩, ⟨%f4, %e4, %hF4, F4⟩, ⟨%f5, %e5, %hF5, F5⟩⟩, HW, Hk⟩
  obtain rfl := hA.eq_unread hf
  sl_exec (disch := first | sl_exact hw | sl_exact hd)
  sl_step
  iapply Hk
  isplitl [H]
  · iexists _; isplitr; · ipureintro; exact hA.read_unread _
    iexact H
  isplitl [F0_dst F1_dst F2_dst F3_dst F4_dst F5_dst]
  · isplitl [F0_dst]
    · iexists _; isplitr; · ipureintro; exact hF0
      iexact F0_dst
    isplitl [F1_dst]
    · iexists _; isplitr; · ipureintro; exact hF1
      iexact F1_dst
    isplitl [F2_dst]
    · iexists _; isplitr; · ipureintro; exact hF2
      iexact F2_dst
    isplitl [F3_dst]
    · iexists _; isplitr; · ipureintro; exact hF3
      iexact F3_dst
    isplitl [F4_dst]
    · iexists _; isplitr; · ipureintro; exact hF4
      iexact F4_dst
    iexists _; isplitr; · ipureintro; exact hF5
    iexact F5_dst
  isplitl [F0 F1 F2 F3 F4 F5]
  · isplitl [F0]
    · iexists _, _; isplitr; on_goal 2 => iexact F0
      ipureintro; exact sent c _ _ _ _ _ _ (filled0 t A hA x _)
    isplitl [F1]
    · iexists _, _; isplitr; on_goal 2 => iexact F1
      ipureintro; exact sent c _ _ _ _ _ _ (filled1 t A hA x _)
    isplitl [F2]
    · iexists _, _; isplitr; on_goal 2 => iexact F2
      ipureintro; exact sent c _ _ _ _ _ _ (filled2 t A hA x _)
    isplitl [F3]
    · iexists _, _; isplitr; on_goal 2 => iexact F3
      ipureintro; exact sent c _ _ _ _ _ _ (filled3 t A hA x _)
    isplitl [F4]
    · iexists _, _; isplitr; on_goal 2 => iexact F4
      ipureintro; exact sent c _ _ _ _ _ _ (filled4 t A hA x _)
    iexists _, _; isplitr; on_goal 2 => iexact F5
    ipureintro; exact sent c _ _ _ _ _ _ (filled5 t A hA x _)
  iexists _; iexact HW

end Cert.KernelIdeal.Decode

end
-- ==== Proof.RunC.lean ====
/-
  THE BODY AT STEP 31: it waits for the copies of two steps back, refills their group, copies out and drains every flight.
-/
module

public import proofs.«01_k».proof.Proof.RunB

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 3492000 in
/-- The body at such a step, run on a whole staging buffer holding the step's blocks `x` and the step's pieces at anything:
    every piece still in flight arrives with its values, and both groups are at rest. -/
theorem runC (c : Dev nD) (t : Fin cfg0.N) (A : Memref sig .tc .vmem S8x4x64x510 .f32) (hA : A.IsWhole)
    (hw : waits (grid0.coords t)) (hd : drains (grid0.coords t)) (x : Vec F S8x4x64x510 .f32)
    (v : Fin 32 → Fin 6 → Vec F S85x8x256 .f32)
    (W : Waits sig Unit) (K : PUnit → sProp 𝕄) :
    iprop(owns (c : Thread nD τ) A fullShare x ∗ ahead (F := F) c (Ring.bk 32 t.val) ∗ infl c v (Ring.sl 2 t.val) (Ring.bk 32 (t.val - 2)) ∗ infl c v (Ring.sl 2 (t.val + 1)) (Ring.bk 32 (t.val - 1)) ∗ owes (c : Thread nD τ) 0 W
        ∗ (iprop(owns (c : Thread nD τ) A fullShare x ∗ six (fun a => pieceV c (Ring.bk 32 t.val) a (tileVal t x a)) ∗ behind c v (Ring.bk 32 (t.val - 2)) ∗ behind c v (Ring.bk 32 (t.val - 1)) ∗ free c (Ring.sl 2 t.val) ∗ free c (Ring.sl 2 (t.val + 1)) ∗ (∃ W', owes (c : Thread nD τ) 0 W')) -∗ K ⟨⟩))
      ⊢ wp frame (wpE (defs₀ (F := F)) Variants.none c none) Set.univ
          (cc0__decode_kernel (grid0.coords t) A hA result (Memref.isWhole_whole _) scratch (Memref.isWhole_whole _) cc0_scratch1) K := by
  haveI : Fact (waits (grid0.coords t)) := ⟨hw⟩
  haveI : Fact (drains (grid0.coords t)) := ⟨hd⟩
  simp only [cc0__decode_kernel_eq_skeleton]; unfold cc0__decode_kernel_skel
  simp only [k0_part4_eq_skeleton, k0_part1_eq_skeleton, k0_part5_eq_skeleton, k0_part6_eq_skeleton,
      k0_part7_eq_skeleton, k0_part8_eq_skeleton, k0_part9_eq_skeleton, k0_part10_eq_skeleton, k0_part11_eq_skeleton,
      k0_part12_eq_skeleton, k0_part13_eq_skeleton, k0_part14_eq_skeleton, k0_part15_eq_skeleton,
      k0_part16_eq_skeleton, k0_part17_eq_skeleton, k0_part18_eq_skeleton, k0_part19_eq_skeleton,
      k0_part20_eq_skeleton, k0_part21_eq_skeleton, k0_part22_eq_skeleton, k0_part23_eq_skeleton,
      k0_part24_eq_skeleton, k0_part25_eq_skeleton, k0_part26_eq_skeleton, k0_part27_eq_skeleton,
      k0_part28_eq_skeleton, k0_part29_eq_skeleton, k0_part30_eq_skeleton, k0_part31_eq_skeleton,
      k0_part32_eq_skeleton, k0_part33_eq_skeleton, k0_part34_eq_skeleton, k0_part35_eq_skeleton,
      k0_part36_eq_skeleton, k0_part2_eq_skeleton, k0_part3_eq_skeleton]
  unfold owns
  iintro ⟨⟨%f, %hf, H⟩, ⟨⟨%p0, P0⟩, ⟨%p1, P1⟩, ⟨%p2, P2⟩, ⟨%p3, P3⟩, ⟨%p4, P4⟩, ⟨%p5, P5⟩⟩, ⟨⟨%f0, %e0, %hF0, F0⟩, ⟨%f1, %e1, %hF1, F1⟩, ⟨%f2, %e2, %hF2, F2⟩, ⟨%f3, %e3, %hF3, F3⟩, ⟨%f4, %e4, %hF4, F4⟩, ⟨%f5, %e5, %hF5, F5⟩⟩, ⟨⟨%i0, %d0, %hI0, I0⟩, ⟨%i1, %d1, %hI1, I1⟩, ⟨%i2, %d2, %hI2, I2⟩, ⟨%i3, %d3, %hI3, I3⟩, ⟨%i4, %d4, %hI4, I4⟩, ⟨%i5, %d5, %hI5, I5⟩⟩, HW, Hk⟩
  obtain rfl := hA.eq_unread hf
  sl_exec (disch := first | sl_exact hw | sl_exact hd)
  sl_step
  iapply Hk
  isplitl [H]
  · iexists _; isplitr; · ipureintro; exact hA.read_unread _
    iexact H
  isplitl [P0 P1 P2 P3 P4 P5]
  · isplitl [P0]
    · iexists _; isplitr; on_goal 2 => iexact P0
      ipureintro; exact sent c _ _ _ _ _ _ (filled0 t A hA x _)
    isplitl [P1]
    · iexists _; isplitr; on_goal 2 => iexact P1
      ipureintro; exact sent c _ _ _ _ _ _ (filled1 t A hA x _)
    isplitl [P2]
    · iexists _; isplitr; on_goal 2 => iexact P2
      ipureintro; exact sent c _ _ _ _ _ _ (filled2 t A hA x _)
    isplitl [P3]
    · iexists _; isplitr; on_goal 2 => iexact P3
      ipureintro; exact sent c _ _ _ _ _ _ (filled3 t A hA x _)
    isplitl [P4]
    · iexists _; isplitr; on_goal 2 => iexact P4
      ipureintro; exact sent c _ _ _ _ _ _ (filled4 t A hA x _)
    iexists _; isplitr; on_goal 2 => iexact P5
    ipureintro; exact sent c _ _ _ _ _ _ (filled5 t A hA x _)
  isplitl [F0_dst F1_dst F2_dst F3_dst F4_dst F5_dst]
  · isplitl [F0_dst]
    · iexists _; isplitr; · ipureintro; exact hF0
      iexact F0_dst
    isplitl [F1_dst]
    · iexists _; isplitr; · ipureintro; exact hF1
      iexact F1_dst
    isplitl [F2_dst]
    · iexists _; isplitr; · ipureintro; exact hF2
      iexact F2_dst
    isplitl [F3_dst]
    · iexists _; isplitr; · ipureintro; exact hF3
      iexact F3_dst
    isplitl [F4_dst]
    · iexists _; isplitr; · ipureintro; exact hF4
      iexact F4_dst
    iexists _; isplitr; · ipureintro; exact hF5
    iexact F5_dst
  isplitl [I0_dst I1_dst I2_dst I3_dst I4_dst I5_dst]
  · isplitl [I0_dst]
    · iexists _; isplitr; · ipureintro; exact hI0
      iexact I0_dst
    isplitl [I1_dst]
    · iexists _; isplitr; · ipureintro; exact hI1
      iexact I1_dst
    isplitl [I2_dst]
    · iexists _; isplitr; · ipureintro; exact hI2
      iexact I2_dst
    isplitl [I3_dst]
    · iexists _; isplitr; · ipureintro; exact hI3
      iexact I3_dst
    isplitl [I4_dst]
    · iexists _; isplitr; · ipureintro; exact hI4
      iexact I4_dst
    iexists _; isplitr; · ipureintro; exact hI5
    iexact I5_dst
  isplitl [F0 F0_src F1 F1_src F2 F2_src F3 F3_src F4 F4_src F5 F5_src]
  · isplitl [F0 F0_src]
    · isplitl [F0]; · iexact F0
      iexists _; iexact F0_src
    isplitl [F1 F1_src]
    · isplitl [F1]; · iexact F1
      iexists _; iexact F1_src
    isplitl [F2 F2_src]
    · isplitl [F2]; · iexact F2
      iexists _; iexact F2_src
    isplitl [F3 F3_src]
    · isplitl [F3]; · iexact F3
      iexists _; iexact F3_src
    isplitl [F4 F4_src]
    · isplitl [F4]; · iexact F4
      iexists _; iexact F4_src
    isplitl [F5]; · iexact F5
    iexists _; iexact F5_src
  isplitl [I0 I0_src I1 I1_src I2 I2_src I3 I3_src I4 I4_src I5 I5_src]
  · isplitl [I0 I0_src]
    · isplitl [I0]; · iexact I0
      iexists _; iexact I0_src
    isplitl [I1 I1_src]
    · isplitl [I1]; · iexact I1
      iexists _; iexact I1_src
    isplitl [I2 I2_src]
    · isplitl [I2]; · iexact I2
      iexists _; iexact I2_src
    isplitl [I3 I3_src]
    · isplitl [I3]; · iexact I3
      iexists _; iexact I3_src
    isplitl [I4 I4_src]
    · isplitl [I4]; · iexact I4
      iexists _; iexact I4_src
    isplitl [I5]; · iexact I5
    iexists _; iexact I5_src
  iexists _; iexact HW

end Cert.KernelIdeal.Decode

end
-- ==== Proof.Launched.lean ====
/-
  THE WHOLE LAUNCH. The ring's state before each step, the step's run at every grid point, and the launch: from any memory
  @main terminates with its argument unchanged, every semaphore at zero, and its result the transpose of `gathered` values.
-/
module

public import proofs.«01_k».proof.Proof.Placement
public import proofs.«01_k».proof.Proof.RunC
public import proofs.«01_k».proof.Proof.Gen.KernelIdeal.Frame
public import Idealize.ShloMosaic.Lib.Pipeline.FrameBody
public import Idealize.ShloMosaic.Lib.Pipeline.FrameSuffixV

@[expose] public section

set_option maxRecDepth 16384

noncomputable section

namespace Cert.KernelIdeal.Decode

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The values each step delivers -/

/-- The grid point of a step. -/
def point (u : Fin 32) : Fin grid0.N := ⟨u.val, by rw [N_0]; exact u.isLt⟩
/-- The grid point of a step's own number is that step. -/
theorem point_bk (t : Fin grid0.N) : point (Ring.bk 32 t.val) = t :=
  Fin.ext (Ring.bk_val (lt_of_lt_of_eq t.isLt N_0))

/-- The block of eight images' four rows that step `t` is given. -/
def blockOf (c : Dev nD) (t : Fin grid0.N) : Vec F S8x4x64x510 .f32 := iblk m c 0 t

/-- What step `u` delivers to anchor `a`'s piece. -/
def delivered (c : Dev nD) (u : Fin 32) (a : Fin 6) : Vec F S85x8x256 .f32 := tileVal (point u) (blockOf m c (point u)) a
/-- What a step delivers, by the step itself. -/
theorem delivered_bk (c : Dev nD) (t : Fin grid0.N) (a : Fin 6) :
    delivered m c (Ring.bk 32 t.val) a = tileVal t (blockOf m c t) a := by
  unfold delivered; rw [point_bk]

/-! ## The invariant -/

/-- The scheme before step `k`. -/
def ringAt (c : Dev nD) (k : ℕ) : sProp 𝕄 :=
  Ring.AtBΦ 2 (free (F := F) c) (infl c (delivered m c)) (ahead (F := F) c) (behind c (delivered m c)) k

/-- The pipeline's proof data: the arrays as the launch finds them, each input block left in place, the ring before each
    step. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := ringAt m c t.val
  q _ := fullShare
  owed _ := 0

/-- The pipeline's arrays are those the region finds. -/
theorem dats_A (c : Dev nD) (w : Fin cfg0.W) : (dats m 0 c).A w = V m c (Pipeline.arrRef spec0 w) := by
  dsimp only [dats]
/-- The state before a step. -/
theorem dats_Φ_castSucc (c : Dev nD) (t : Fin cfg0.N) : (dats m 0 c).Φ t.castSucc = ringAt m c t.val := by
  dsimp only [dats]; simp only [Fin.val_castSucc]
/-- The state after a step. -/
theorem dats_Φ_succ (c : Dev nD) (t : Fin cfg0.N) : (dats m 0 c).Φ t.succ = ringAt m c (t.val + 1) := by
  dsimp only [dats]; simp only [Fin.val_succ]
/-- The body leaves its input block in place. -/
theorem dats_after (c : Dev nD) (t : Fin cfg0.N) : (dats m 0 c).after 0 t = iblk m c 0 t := by dsimp only [dats]

/-- At every point the staged input is the point's block. -/
theorem dats_before (c : Dev nD) (t : Fin cfg0.N) (d) : (dats m 0 c).before 0 t d = iblk m c 0 t :=
  ((dats m 0 c).before_in_eq_fetched 0 rfl (fun _ => rfl) (fun _ _ _ => rfl)
      (fun t => by rw [dats_after]; unfold Dat.blockOf iblk; rw [dats_A]; try rfl) t d).trans
    (by unfold Dat.fetched Dat.blockOf iblk; rw [dats_A]; try rfl)

/-! ## Every point -/

/-- What the body starts point `t` with, -/
def pointPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)))
/-- and what it ends with. -/
def pointPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t))

/-- The new copies of step `t`, as the ring names them. -/
theorem six_flights (c : Dev nD) (t : Fin cfg0.N) (g : Fin 2) :
    (six fun a => flightV c g a (Ring.bk 32 t.val) (tileVal t (blockOf m c t) a))
      = infl c (delivered m c) g (Ring.bk 32 t.val) := by
  have h : tileVal t (blockOf m c t) = delivered m c (Ring.bk 32 t.val) := funext fun a => (delivered_bk m c t a).symm
  unfold infl; rw [← h]
/-- The pieces the last step drains, as the ring names them. -/
theorem six_pieces (c : Dev nD) (t : Fin cfg0.N) :
    (six fun a => pieceV c (Ring.bk 32 t.val) a (tileVal t (blockOf m c t) a))
      = behind c (delivered m c) (Ring.bk 32 t.val) := by
  have h : tileVal t (blockOf m c t) = delivered m c (Ring.bk 32 t.val) := funext fun a => (delivered_bk m c t a).symm
  unfold behind; rw [← h]

/-- The body at any point: from the ring before the step to the ring after it. -/
theorem body_at (c : Dev nD) (t : Fin cfg0.N) :
    pointPre m c t ⊢ wp frame (wpE (defs₀ (F := F)) Variants.none c none) Set.univ (bodyAt0 t) (fun _ => pointPost m c t) := by
  unfold pointPre pointPost bodyAt0
  simp only [dats_before]
  rw [dats_after, dats_Φ_castSucc m c t, dats_Φ_succ m c t]
  unfold Dat.owesAt Pipeline.owesWithin
  rw [show (dats m 0 c).owed t.castSucc = 0 from rfl, show (dats m 0 c).owed t.succ = 0 from rfl]
  unfold ringAt
  have hN : t.val < 32 := lt_of_lt_of_eq t.isLt (show cfg0.N = 32 from N_0)
  by_cases h0 : 2 ≤ t.val
  · by_cases h1 : t.val = 31
    · rw [Ring.AtBΦ_lt _ _ _ _ _ t.val hN, Ring.AtB22_here_last _ _ _ _ t.val h0 (by omega),
        Ring.AtBΦ_end _ _ _ _ _ (t.val + 1) (by omega), Ring.AtB22_drained _ _ t.val h0 (by omega)]
      iintro ⟨⟨HA, HB, HF, HI⟩, ⟨%W, -, HW⟩, ⟨%d0, H0⟩⟩
      iapply (runC c t _ (hstage0_0 ((cfg0.slots t 0).cast nbuf0_0)) ((waits_iff t).mpr h0) ((drains_iff t).mpr h1) (blockOf m c t) (delivered m c) W _)
      isplitl [H0]; · iexact H0
      isplitl [HA]; · iexact HA
      isplitl [HF]; · iexact HF
      isplitl [HI]; · iexact HI
      isplitl [HW]; · iexact HW
      rw [six_pieces]
      iintro ⟨H0, HP, HL, HM, HG, HH, ⟨%W', HW'⟩⟩
      isplitl [HP HL HM HG HH HB]
      · isplitl [HP HL HM HB]
        · isplitl [HP]; · iexact HP
          isplitl [HL]; · iexact HL
          isplitl [HM]; · iexact HM
          iexact HB
        isplitl [HG]; · iexact HG
        iexact HH
      isplitl [HW']
      · iexists W'; isplitr; · ipureintro; exact fun _ _ => Or.inl trivial
        iexact HW'
      iexact H0
    · rw [Ring.AtBΦ_lt _ _ _ _ _ t.val hN, Ring.AtB22_here _ _ _ _ t.val h0 hN,
        Ring.AtBΦ_lt _ _ _ _ _ (t.val + 1) (by omega), Ring.AtB22_next _ _ _ _ t.val h0 hN]
      iintro ⟨⟨⟨HA, HR⟩, HB, HF, HI⟩, ⟨%W, -, HW⟩, ⟨%d0, H0⟩⟩
      iapply (runB c t _ (hstage0_0 ((cfg0.slots t 0).cast nbuf0_0)) ((waits_iff t).mpr h0) (fun h => h1 ((drains_iff t).mp h)) (blockOf m c t) (delivered m c) W _)
      isplitl [H0]; · iexact H0
      isplitl [HA]; · iexact HA
      isplitl [HF]; · iexact HF
      isplitl [HW]; · iexact HW
      rw [six_flights]
      iintro ⟨H0, HL, HN, ⟨%W', HW'⟩⟩
      isplitl [HR HB HI HL HN]
      · isplitl [HR]; · iexact HR
        isplitl [HL HB]
        · isplitl [HL]; · iexact HL
          iexact HB
        isplitl [HI]; · iexact HI
        iexact HN
      isplitl [HW']
      · iexists W'; isplitr; · ipureintro; exact fun _ _ => Or.inl trivial
        iexact HW'
      iexact H0
  · have hd : ¬drains (grid0.coords t) := fun h => absurd ((drains_iff t).mp h) (by omega)
    rcases (show t.val = 0 ∨ t.val = 1 by omega) with hk | hk
    · rw [Ring.AtBΦ_lt _ _ _ _ _ t.val hN, Ring.AtB2_zero' 2 _ _ _ _ t.val hk,
        Ring.AtBΦ_lt _ _ _ _ _ (t.val + 1) (by omega), Ring.AtB22_next_zero' _ _ _ _ t.val hk]
      iintro ⟨⟨⟨HA, HR⟩, HF, HX⟩, ⟨%W, -, HW⟩, ⟨%d0, H0⟩⟩
      iapply (runA c t _ (hstage0_0 ((cfg0.slots t 0).cast nbuf0_0)) (fun h => h0 ((waits_iff t).mp h)) hd (blockOf m c t) W _)
      isplitl [H0]; · iexact H0
      isplitl [HA]; · iexact HA
      isplitl [HF]; · iexact HF
      isplitl [HW]; · iexact HW
      rw [six_flights]
      iintro ⟨H0, HN, ⟨%W', HW'⟩⟩
      isplitl [HR HX HN]
      · isplitl [HR]; · iexact HR
        isplitl [HX]; · iexact HX
        iexact HN
      isplitl [HW']
      · iexists W'; isplitr; · ipureintro; exact fun _ _ => Or.inl trivial
        iexact HW'
      iexact H0
    · rw [Ring.AtBΦ_lt _ _ _ _ _ t.val hN, Ring.AtB22_one' _ _ _ _ t.val hk (by decide),
        Ring.AtBΦ_lt _ _ _ _ _ (t.val + 1) (by omega), Ring.AtB22_next_one' _ _ _ _ t.val hk]
      iintro ⟨⟨⟨HA, HR⟩, HF, HX⟩, ⟨%W, -, HW⟩, ⟨%d0, H0⟩⟩
      iapply (runA c t _ (hstage0_0 ((cfg0.slots t 0).cast nbuf0_0)) (fun h => h0 ((waits_iff t).mp h)) hd (blockOf m c t) W _)
      isplitl [H0]; · iexact H0
      isplitl [HA]; · iexact HA
      isplitl [HF]; · iexact HF
      isplitl [HW]; · iexact HW
      rw [six_flights]
      iintro ⟨H0, HN, ⟨%W', HW'⟩⟩
      isplitl [HR HX HN]
      · isplitl [HR]; · iexact HR
        isplitl [HX]; · iexact HX
        iexact HN
      isplitl [HW']
      · iexists W'; isplitr; · ipureintro; exact fun _ _ => Or.inl trivial
        iexact HW'
      iexact H0

/-- The pipeline's body at point `t`, from its table. -/
theorem table_row (t : Fin cfg0.N) : defs₀ (F := F) .tc cfg0.body (cfg0.bodyArgs t (cfg0.slots t)) = bodyAt0 t := by
  unfold defs₀; rw [Defs.onTc_tc]

/-- The body at every point, as the launch asks it. -/
theorem body_obligation (c : Dev nD) : BodyObligation (dats (F := F) m 0 c) (defs₀ (F := F)) Variants.none () Set.univ := fun t => by
  rw [bigSep_W0, bigSep_W0, table_row]
  exact triple_restated (body_at m c t) rfl .rfl fun _ => .rfl

/-! ## Into the ring and out of it -/

/-- The kernel's own semaphores: the twelve cells. -/
abbrev cells (i : Fin 2 × Fin 6) : SemLoc sig := cell i.1 i.2
/-- The transfer cells belong to the region alone. -/
theorem cells_own : Pipeline.OwnSemFacts spec0 cells := by decide +kernel

/-- The arrays the body writes by its own copies: the result of the region. -/
def written : Finset (Ref sig .tc) := {main_v1}
/-- The buffers the body writes are not the pipeline's. -/
theorem written_sub : written ⊆ Pipeline.restRefs sig spec0 \ ∅ := by decide

/-- The contents the region leaves in them. -/
def left (c : Dev nD) (b : Ref sig .tc) : Buf (Elt F) ((c : Thread nD τ).loc b) :=
  if h : b = main_v1 then h ▸ (gathered (delivered m c) : Buf (Elt F) ((c : Thread nD τ).loc main_v1)) else V m c b

/-- What the launch hands over is the state before the first step. -/
theorem region_in (c : Dev nD) : Pipeline.ΦDRV cells spec0 ∅ written (V m) (V m) c ⊢ (dats m 0 c).Φ 0 := by
  rw [show (dats m 0 c).Φ 0 = ringAt m c 0 from rfl]
  unfold Pipeline.ΦDRV ringAt Pipeline.ownSems0 written
  rw [scopedRest0_eq, BI.bigSep_empty, BI.bigSep_singleton, Ring.AtBΦ_lt _ _ _ _ _ 0 (by decide), Ring.AtB_zero]
  unfold Ring.AtB₀
  rw [← groups_eq]
  iintro ⟨HS, HQ, -, HD⟩
  ihave HT := (tiles_in (F := F) c) $$ HS
  isplitl [HD]
  · iapply (pieces_in (F := F) c)
    iexists _; iexact HD
  isplitl [HQ]
  · iexact HQ
  iexact HT

/-- The state after the last step is what the launch takes back. -/
theorem region_out (c : Dev nD) : (dats m 0 c).Φ (Fin.last cfg0.N) ⊢ Pipeline.ΦDRV cells spec0 ∅ written (V m) (left m) c := by
  rw [show (dats m 0 c).Φ (Fin.last cfg0.N) = ringAt m c grid0.N from rfl, N_0]
  unfold Pipeline.ΦDRV ringAt Pipeline.ownSems0 written
  rw [scopedRest0_eq, BI.bigSep_empty, BI.bigSep_singleton, Ring.AtBΦ_ge _ _ _ _ _ 32 (by decide)]
  unfold Ring.AtBEnd
  rw [← groups_eq]
  iintro ⟨HP, HQ, HT⟩
  isplitl [HT]
  · iapply (tiles_out (F := F) c (V m c cc0_scratch0))
    iexact HT
  isplitl [HQ]
  · iexact HQ
  isplitr; · iempintro
  iapply (pieces_out c (delivered m c))
  iexact HP

/-! ## The run -/

/-- @main is the host lines before the region, the region and the host lines after it. -/
theorem main_around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the launch leaves: every array outside the region at what the later host lines make of the region's results, and
    every semaphore counter at zero. -/
def Leaves (r : PUnit × MemSt nD τ sig (Elt F)) : Prop :=
  (∀ c : Dev nD, ∀ b ∈ Pipeline.restRefs sig spec0, r.2.mem ((c.tc : Thread nD τ).loc b)
      = StableHlo.after ([hostOps1] : List (List (HloOp τ sig (Elt F)))).flatten
          (Pipeline.withArrays spec0 c (Pipeline.withR (V0 m c) written c (left m c)) fun w => (dats m 0 c).arrAt w cfg0.N) (Proc.devRef .tc b))
    ∧ r.2.sem = fun _ => 0

set_option backward.isDefEq.respectTransparency.types false in
/-- The launch. -/
theorem run_leaves : θ_run defs (onTc (τ := τ) (main (F := F))) (s₀ m ρ) (Leaves m) :=
  Pipeline.θ_run_frame_dmaR_aroundV cfgs (dats m) (0 : Fin 1) launch0 cells defs₀ Variants.none cells_own ∅ written (Finset.empty_subset _) written_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := left m)
    (hmain := main_around m Variants.none) (hA := dats_A m) (hin := region_in m) (hout := region_out m)
    (Q' := Leaves m) (hQ' := fun _ h => ⟨fun c => (h.1 c).2, h.2⟩)

/-- The kernel's result: the region's array with its axes in the result's order. -/
def decoded (c : Dev nD) : Vec F S16x24576x85 .f32 :=
  transpose S16x24576x85 [1, 2, 0] (gathered (delivered m c)) transposes_S85x16x24576_S16x24576x85_1_2_0

/-- The result buffer is left holding the gathered values. -/
theorem left_result (c : Dev nD) : left m c main_v1 = (gathered (delivered m c) : Buf (Elt F) ((c : Thread nD τ).loc main_v1)) := by
  unfold left; rw [dif_pos rfl]

/-- THE RUN: from any memory @main terminates, its result is `decoded`, its argument is unchanged and every semaphore
    counter is zero. -/
theorem run : θ_run defs (onTc (τ := τ) (main (F := F))) ⟨m, fun _ => 0, ρ⟩ (fun r =>
    (∀ c : Dev nD, r.2.mem ((c.tc : Thread nD τ).loc main_v2) = (decoded m c : Buf (Elt F) ((c : Thread nD τ).loc main_v2))
      ∧ r.2.mem ((c.tc : Thread nD τ).loc main_arg0) = m ((c.tc : Thread nD τ).loc main_arg0))
    ∧ r.2.sem = fun _ => 0) :=
  (θ_run defs _ _).mono (fun r h => ⟨fun c => ⟨by
      rw [h.1 c main_v2 (Pipeline.mem_restRefs_of main_v2 (by decide) (by decide))]
      rw [List.flatten_cons, List.flatten_nil, List.append_nil, StableHlo.after_cons, StableHlo.after_nil, StableHlo.unary_result',
        Pipeline.withArrays_of_ne _ c _ _ main_v1 (by exact (by decide : ∀ w, Pipeline.arrRef spec0 w ≠ main_v1)),
        Pipeline.withR_of_mem _ written c _ main_v1 (by decide), left_result]
      rfl, by
      rw [h.1 c main_arg0 (Pipeline.mem_restRefs_of main_arg0 (by decide) (by decide))]
      rw [List.flatten_cons, List.flatten_nil, List.append_nil, StableHlo.after_cons, StableHlo.after_nil,
        StableHlo.unary_result_ne' _ _ _ _ (by decide : main_arg0 ≠ main_v2),
        Pipeline.withArrays_of_ne _ c _ _ main_arg0 (by exact (by decide : ∀ w, Pipeline.arrRef spec0 w ≠ main_arg0)),
        Pipeline.withR_of_not_mem _ written c _ main_arg0 (by decide)]
      exact V_main_arg0 m c⟩, h.2⟩) (run_leaves m ρ)

end Cert.KernelIdeal.Decode

end
-- ==== Proof.KernelValue.lean ====
/-
  WHAT THE RESULT HOLDS, ELEMENT BY ELEMENT. Every layout step between the argument and the result is read at one index: an
  element of the result is one channel of one image position, decoded by the strip's rule for that channel.
-/
module

public import proofs.«01_k».proof.Proof.Launched
public import Idealize.ShloMosaic.Lib.Pointwise

@[expose] public section

set_option maxRecDepth 16384

noncomputable section

namespace Cert.KernelIdeal.Decode

open Idealize.ShloMosaic Idealize.ShloMosaic.TcCoe
open Cert.KernelIdeal.Gen

variable {F : FTy → Type} [FloatOps F]

/-! ## One strip -/

/-- Row `k`, lane `l` of a strip. -/
theorem strip_apply (col row : FVec F S1x256 .f32) (w h : BitVec 32) (s : FVec F S85x256 .f32) (k : Fin 85) (l : Fin 256) :
    strip col row w h s (ix2 k l) =
      if k.val = 0 then FloatOps.mulf (FloatOps.addf (FloatOps.logistic (s (ix2 k l))) (col (ix2 0 l))) (FloatOps.ofBits .f32 0x41000000#32)
      else if k.val = 1 then FloatOps.mulf (FloatOps.addf (FloatOps.logistic (s (ix2 k l))) (row (ix2 0 l))) (FloatOps.ofBits .f32 0x41000000#32)
      else if k.val = 2 then FloatOps.mulf (FloatOps.exp (s (ix2 k l))) (FloatOps.ofBits .f32 w)
      else if k.val = 3 then FloatOps.mulf (FloatOps.exp (s (ix2 k l))) (FloatOps.ofBits .f32 h)
      else if k.val = 4 then FloatOps.logistic (s (ix2 k l))
      else s (ix2 k l) := by
  pointwise [strip]
  obtain ⟨k, hk⟩ := k
  dsimp only
  by_cases h0 : k = 0
  · subst h0; rfl
  by_cases h1 : k = 1
  · subst h1; rfl
  by_cases h2 : k = 2
  · subst h2; rfl
  by_cases h3 : k = 3
  · subst h3; rfl
  by_cases h4 : k = 4
  · subst h4; rfl
  rw [dif_neg (by omega), dif_neg (by omega), dif_neg (by omega), dif_neg (by omega), dif_neg (by omega), if_neg h0, if_neg h1,
    if_neg h2, if_neg h3, if_neg h4]
  exact congrArg (fun q => s (ix2 q l)) (Fin.ext (by dsimp only; omega))

/-- Anchor `a`'s channel `k` is channel `85 a + k` of the block. -/
theorem channels_apply (a : Fin 6) (x : FVec F S510x256 .f32) (k : Fin 85) (l : Fin 256) (ch : Fin 510)
    (hch : ch.val = 85 * a.val + k.val) : channels a x (ix2 k l) = x (ix2 ch l) := by
  fin_cases a <;> (simp only [channels]; pointwise; exact congrArg (fun q => x (ix2 q l)) (Fin.ext (by simp at hch ⊢; omega)))

/-- The transposed block at channel `ch` and lane `l`. -/
theorem k0_pay5_apply (x : Vec F S1x4x64x510 .f32) (ch : Fin 510) (l : Fin 256) (r : Fin 4) (q : Fin 64) (hl : l.val = 64 * r.val + q.val) :
    k0_pay5 x (ix2 ch l) = x (ix4 0 r q ch) := by
  pointwise [k0_pay5]
  congr 2 <;> exact Fin.ext (by dsimp only; omega)

/-- A stored block is its strip. -/
theorem stored_apply (t : Fin grid0.N) (a : Fin 6) (x : Vec F S1x4x64x510 .f32) (k : Fin 85) (l : Fin 256) :
    stored t a x (ix5 0 0 k 0 l) = strip k0_pay1 (rowOf t) (widthBits a) (heightBits a) (channels a (k0_pay5 x)) (ix2 k l) := by
  pointwise [stored]

/-! ## The two coordinates -/

/-- Lane `l` lies in column `l mod 64`. -/
theorem col_apply (l : Fin 256) : (k0_pay1 : FVec F S1x256 .f32) (ix2 0 l) = FloatOps.sitofp .f32 (BitVec.ofNat 32 (l.val % 64)) := by
  pointwise [k0_pay1]
  congr 1
  revert l
  decide +kernel

/-- The kernel's floor division of a lane by 64. -/
theorem lane_div (l : Fin 256) :
    (Scalar.select
          (IntOp.andi
            (IntOp.cmpi CmpIPredicate.ne
              (IntOp.subi (BitVec.setWidth 32 (IntOp.cmpi CmpIPredicate.sgt (BitVec.ofNat 32 l.val) 0#32))
                (BitVec.setWidth 32 (IntOp.cmpi CmpIPredicate.slt (BitVec.ofNat 32 l.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 l.val) 64#32) 0#32))
          (IntOp.subi (IntOp.divsi ArithUnit.vector (BitVec.ofNat 32 l.val) 64#32) 1#32)
          (IntOp.divsi ArithUnit.vector (BitVec.ofNat 32 l.val) 64#32)) = BitVec.ofNat 32 (l.val / 64) := by
  revert l
  decide +kernel

/-- The row block of step `t` is `t mod 16`. -/
theorem coords_row : ∀ t : Fin grid0.N, (grid0.coords t 1).val = t.val % 16 := by decide +kernel

/-- Lane `l` of step `t` lies in row `4 (t mod 16) + l / 64`. -/
theorem row_apply (t : Fin grid0.N) (l : Fin 256) :
    rowOf (F := F) t (ix2 0 l) = FloatOps.sitofp .f32 (BitVec.ofNat 32 (4 * (t.val % 16) + l.val / 64)) := by
  pointwise [rowOf, k0_pay4, k0_pay2, k0_pay3]
  rw [lane_div, coords_row, Nat.mul_comm 4, BitVec.ofNat_add, BitVec.ofNat_mul]
  rfl

/-! ## The argument read through a step's block -/

/-- Where step `t`'s block begins. -/
theorem block_start : ∀ t : Fin grid0.N, win0_0.index t 0 = t.val / 16 ∧ win0_0.index t 1 = t.val % 16
    ∧ win0_0.index t 2 = 0 ∧ win0_0.index t 3 = 0 := by decide +kernel

variable (m : (ℓ : Loc nD τ sig) → Buf (Elt F) ℓ)

/-- The argument. -/
abbrev argument (c : Dev nD) : Vec F S16x510x64x64 .f32 := m ((c.tc : Thread nD τ).loc main_arg0)

/-- Step `t`'s block at image `n`, row `r`, column `q`, channel `ch`. -/
theorem blockOf_apply (c : Dev nD) (t : Fin grid0.N) (n : Fin 8) (r : Fin 4) (q : Fin 64) (ch : Fin 510) (b : Fin 16) (y : Fin 64)
    (hb : b.val = 8 * (t.val / 16) + n.val) (hy : y.val = 4 * (t.val % 16) + r.val) :
    blockOf m c t (ix4 n r q ch) = argument m c (ix4 b ch y q) := by
  unfold blockOf iblk
  have e : V m c (Pipeline.arrRef spec0 0) = (transpose S16x64x64x510 [0, 2, 3, 1] (argument m c) transposes_S16x510x64x64_S16x64x64x510_0_2_3_1 : Vec F S16x64x64x510 .f32) := rfl
  rw [e, View.read_apply, cast_eq]
  have h : (((cfg0.win 0).blk t).view.emb (ix4 n r q ch) : S16x64x64x510.Idx) = ix4 b y q ch := by
    obtain ⟨e0, e1, e2, e3⟩ := block_start t
    funext x
    match x with
    | ⟨0, _⟩ => exact Fin.ext (show win0_0.index t 0 * 8 + 1 * n.val = b.val by rw [e0]; omega)
    | ⟨1, _⟩ => exact Fin.ext (show win0_0.index t 1 * 4 + 1 * r.val = y.val by rw [e1]; omega)
    | ⟨2, _⟩ => exact Fin.ext (show win0_0.index t 2 * 64 + 1 * q.val = q.val by rw [e2]; omega)
    | ⟨3, _⟩ => exact Fin.ext (show win0_0.index t 3 * 510 + 1 * ch.val = ch.val by rw [e3]; omega)
  refine (congrArg (transpose S16x64x64x510 [0, 2, 3, 1] (argument m c) transposes_S16x510x64x64_S16x64x64x510_0_2_3_1) h).trans ?_
  pointwise

/-! ## An element of the result -/

/-- Channel `k` of anchor `a` at row `y`, column `q`, decoded from its logit `v`. -/
def element (a : Fin 6) (y q k : ℕ) (v : F .f32) : F .f32 :=
  if k = 0 then FloatOps.mulf (FloatOps.addf (FloatOps.logistic v) (FloatOps.sitofp .f32 (BitVec.ofNat 32 q))) (FloatOps.ofBits .f32 0x41000000#32)
  else if k = 1 then FloatOps.mulf (FloatOps.addf (FloatOps.logistic v) (FloatOps.sitofp .f32 (BitVec.ofNat 32 y))) (FloatOps.ofBits .f32 0x41000000#32)
  else if k = 2 then FloatOps.mulf (FloatOps.exp v) (FloatOps.ofBits .f32 (widthBits a))
  else if k = 3 then FloatOps.mulf (FloatOps.exp v) (FloatOps.ofBits .f32 (heightBits a))
  else if k = 4 then FloatOps.logistic v
  else v

/-- Image `b`, anchor `a`, row `y`, column `q`, channel `k` of the result is decoded from channel `85 a + k` of the argument
    at the same image, row and column. -/
theorem decoded_apply (c : Dev nD) (b : Fin 16) (p : Fin 24576) (k : Fin 85) (a : Fin 6) (y q : Fin 64) (ch : Fin 510)
    (hp : p.val = 4096 * a.val + 64 * y.val + q.val) (hch : ch.val = 85 * a.val + k.val) :
    decoded m c (ix3 b p k) = element a y.val q.val k.val (argument m c (ix4 b ch y q)) := by
  have hl : p.val % 256 = 64 * (y.val % 4) + q.val := by omega
  have ht : (stepAt (ix3 k b p)).val = 16 * (b.val / 8) + y.val / 4 := by
    show 16 * (b.val / 8) + p.val % 4096 / 256 = _
    omega
  have ha : anchorAt (ix3 k b p) = a := Fin.ext (show p.val / 4096 = a.val by omega)
  have e1 : decoded m c (ix3 b p k) = gathered (delivered m c) (ix3 k b p) := by
    unfold decoded; pointwise
  have e2 : gathered (delivered m c) (ix3 k b p)
      = stored (point (stepAt (ix3 k b p))) (anchorAt (ix3 k b p))
          (blockAt ⟨b.val % 8, Nat.mod_lt _ (by decide)⟩ (blockOf m c (point (stepAt (ix3 k b p)))))
          (ix5 0 0 k 0 ⟨p.val % 256, Nat.mod_lt _ (by decide)⟩) := by
    unfold gathered delivered tileVal tileOf
    rfl
  rw [e1, e2, ha, stored_apply, strip_apply, channels_apply a _ k _ ch hch,
    k0_pay5_apply _ ch _ ⟨y.val % 4, Nat.mod_lt _ (by decide)⟩ q hl, col_apply, row_apply]
  have e3 : blockAt ⟨b.val % 8, Nat.mod_lt _ (by decide)⟩ (blockOf m c (point (stepAt (ix3 k b p))))
      (ix4 0 ⟨y.val % 4, Nat.mod_lt _ (by decide)⟩ q ch) = argument m c (ix4 b ch y q) := by
    refine Eq.trans ?_ (blockOf_apply m c (point (stepAt (ix3 k b p))) ⟨b.val % 8, Nat.mod_lt _ (by decide)⟩
      ⟨y.val % 4, Nat.mod_lt _ (by decide)⟩ q ch b y ?_ ?_)
    · rfl
    · show b.val = 8 * ((stepAt (ix3 k b p)).val / 16) + b.val % 8
      rw [ht]; omega
    · show y.val = 4 * ((stepAt (ix3 k b p)).val % 16) + y.val % 4
      rw [ht]; omega
  have e4 : p.val % 256 % 64 = q.val := by omega
  have e5 : 4 * ((point (stepAt (ix3 k b p))).val % 16) + p.val % 256 / 64 = y.val := by
    show 4 * ((stepAt (ix3 k b p)).val % 16) + p.val % 256 / 64 = y.val
    rw [ht]; omega
  rw [e3]
  dsimp only
  rw [e4, e5]
  rfl

end Cert.KernelIdeal.Decode

end
-- ==== Proof.Reference.lean ====
/-
  WHAT THE REFERENCE COMPUTES, ELEMENT BY ELEMENT. The reference's reshapes, slices and concatenations are read at one index:
  an element of its result is one channel of one image position, decoded by the plain formula for that channel.
-/
module

public import proofs.«01_k».proof.Proof.Gen.ReferenceIdeal.Run
public import Idealize.ShloMosaic.Lib.Pointwise

@[expose] public section

set_option maxRecDepth 16384

noncomputable section

namespace Cert.ReferenceIdeal.Plain

open Idealize.ShloMosaic Idealize.ShloMosaic.TcCoe
open Cert.ReferenceIdeal Cert.ReferenceIdeal.Gen

variable {F : FTy → Type} [FloatOps F]

/-! ## The reference in named parts -/

/-- The argument with its channels split by anchor and moved last. -/
def moved (x : FVec F S16x510x64x64 .f32) : FVec F S16x6x64x64x85 .f32 :=
  transpose S16x6x64x64x85 [0, 1, 3, 4, 2] (shapeCast S16x6x85x64x64 x shapeCasts_S16x510x64x64_S16x6x85x64x64)
    transposes_S16x6x85x64x64_S16x6x64x64x85_0_1_3_4_2

/-- One of the five leading channels. -/
def channel (x : FVec F S16x510x64x64 .f32) : Fin 5 → FVec F S16x6x64x64 .f32
  | 0 => shapeCast S16x6x64x64 (extractStridedSlice S16x6x64x64x1 ![0, 0, 0, 0, 0] (moved x) slices_S16x6x64x64x85_S16x6x64x64x1_0_0_0_0_0) shapeCasts_S16x6x64x64x1_S16x6x64x64
  | 1 => shapeCast S16x6x64x64 (extractStridedSlice S16x6x64x64x1 ![0, 0, 0, 0, 1] (moved x) slices_S16x6x64x64x85_S16x6x64x64x1_0_0_0_0_1) shapeCasts_S16x6x64x64x1_S16x6x64x64
  | 2 => shapeCast S16x6x64x64 (extractStridedSlice S16x6x64x64x1 ![0, 0, 0, 0, 2] (moved x) slices_S16x6x64x64x85_S16x6x64x64x1_0_0_0_0_2) shapeCasts_S16x6x64x64x1_S16x6x64x64
  | 3 => shapeCast S16x6x64x64 (extractStridedSlice S16x6x64x64x1 ![0, 0, 0, 0, 3] (moved x) slices_S16x6x64x64x85_S16x6x64x64x1_0_0_0_0_3) shapeCasts_S16x6x64x64x1_S16x6x64x64
  | 4 => shapeCast S16x6x64x64 (extractStridedSlice S16x6x64x64x1 ![0, 0, 0, 0, 4] (moved x) slices_S16x6x64x64x85_S16x6x64x64x1_0_0_0_0_4) shapeCasts_S16x6x64x64x1_S16x6x64x64

/-- The logistic function as the reference writes it, `1 / (1 + exp (-v))`. -/
def squash (v : FVec F S16x6x64x64 .f32) : FVec F S16x6x64x64 .f32 :=
  Host.divf (broadcastInDim S16x6x64x64 ![] bcast_S_S16x6x64x64 (constant S_ .f32 0x3F800000#32))
    (addf (broadcastInDim S16x6x64x64 ![] bcast_S_S16x6x64x64 (constant S_ .f32 0x3F800000#32)) (Host.exp (Host.negf v)))

/-- The column numbers over the whole grid. -/
def cols : FVec F S16x6x64x64 .f32 :=
  broadcastInDim S16x6x64x64 ![0, 1, 2, 3] bcast_S1x1x1x64_S16x6x64x64_0_1_2_3 (shapeCast S1x1x1x64 (sitofp .f32 (iotaInDim S64 32 0)) shapeCasts_S64_S1x1x1x64)
/-- The row numbers over the whole grid. -/
def rows : FVec F S16x6x64x64 .f32 :=
  broadcastInDim S16x6x64x64 ![0, 1, 2, 3] bcast_S1x1x64x1_S16x6x64x64_0_1_2_3 (shapeCast S1x1x64x1 (sitofp .f32 (iotaInDim S64 32 0)) shapeCasts_S64_S1x1x64x1)

/-- The anchors in cells: the table of widths and heights divided by the cell's extent. -/
def cells : FVec F S6x2 .f32 :=
  Host.divf (fun i => FloatOps.ofBits .f32 (lit0 (S6x2.rowMajor i))) (broadcastInDim S6x2 ![] bcast_S_S6x2 (constant S_ .f32 0x41000000#32))
/-- The anchors' widths over the whole grid. -/
def widths : FVec F S16x6x64x64 .f32 :=
  broadcastInDim S16x6x64x64 ![0, 1, 2, 3] bcast_S1x6x1x1_S16x6x64x64_0_1_2_3 (shapeCast S1x6x1x1 (shapeCast S6 (extractStridedSlice S6x1 ![0, 0] cells slices_S6x2_S6x1_0_0) shapeCasts_S6x1_S6) shapeCasts_S6_S1x6x1x1)
/-- The anchors' heights over the whole grid. -/
def heights : FVec F S16x6x64x64 .f32 :=
  broadcastInDim S16x6x64x64 ![0, 1, 2, 3] bcast_S1x6x1x1_S16x6x64x64_0_1_2_3 (shapeCast S1x6x1x1 (shapeCast S6 (extractStridedSlice S6x1 ![0, 1] cells slices_S6x2_S6x1_0_1) shapeCasts_S6x1_S6) shapeCasts_S6_S1x6x1x1)

/-- A part as one layer. -/
def layer (v : FVec F S16x6x64x64 .f32) : FVec F S16x6x64x64x1 .f32 :=
  broadcastInDim S16x6x64x64x1 ![0, 1, 2, 3] bcast_S16x6x64x64_S16x6x64x64x1_0_1_2_3 v

/-- The four layers of the boxes, stacked. -/
def stacked (cx cy w h : FVec F S16x6x64x64 .f32) : FVec F S16x6x64x64x4 .f32 :=
  concatenate S16x6x64x64x4 4 [⟨S16x6x64x64x1, layer cx⟩, ⟨S16x6x64x64x1, layer cy⟩, ⟨S16x6x64x64x1, layer w⟩, ⟨S16x6x64x64x1, layer h⟩]
    concatenates_S16x6x64x64x1_S16x6x64x64x1_S16x6x64x64x1_S16x6x64x64x1_S16x6x64x64x4_d4

/-- The boxes: the stacked layers, in image units. -/
def boxes (cx cy w h : FVec F S16x6x64x64 .f32) : FVec F S16x24576x4 .f32 :=
  mulf (shapeCast S16x24576x4 (stacked cx cy w h) shapeCasts_S16x6x64x64x4_S16x24576x4)
    (broadcastInDim S16x24576x4 ![] bcast_S_S16x24576x4 (constant S_ .f32 0x41000000#32))

/-- The class channels. -/
def classes (x : FVec F S16x510x64x64 .f32) : FVec F S16x24576x80 .f32 :=
  shapeCast S16x24576x80 (extractStridedSlice S16x6x64x64x80 ![0, 0, 0, 0, 5] (moved x) slices_S16x6x64x64x85_S16x6x64x64x80_0_0_0_0_5) shapeCasts_S16x6x64x64x80_S16x24576x80

/-- Boxes, score and classes side by side. -/
def joined (bx : FVec F S16x24576x4 .f32) (o : FVec F S16x6x64x64 .f32) (cl : FVec F S16x24576x80 .f32) : FVec F S16x24576x85 .f32 :=
  concatenate S16x24576x85 2 [⟨S16x24576x4, bx⟩, ⟨S16x24576x1, shapeCast S16x24576x1 o shapeCasts_S16x6x64x64_S16x24576x1⟩, ⟨S16x24576x80, cl⟩]
    concatenates_S16x24576x4_S16x24576x1_S16x24576x80_S16x24576x85_d2

/-- The reference's result, from its argument. -/
def answer (x : FVec F S16x510x64x64 .f32) : FVec F S16x24576x85 .f32 :=
  joined (boxes (addf (squash (channel x 0)) cols) (addf (squash (channel x 1)) rows)
      (mulf (Host.exp (channel x 2)) widths) (mulf (Host.exp (channel x 3)) heights))
    (squash (channel x 4)) (classes x)

/-- The run's result is `answer` of the argument. -/
theorem res_eq (m : (ℓ : Loc nD τ sig) → Buf (Elt F) ℓ) (c : Dev nD) :
    Value.res_main_v63 m c = answer (m ((c.tc : Thread nD τ).loc main_arg0) : FVec F S16x510x64x64 .f32) := rfl

/-! ## The parts at an index -/

/-- Anchor `a`'s channel `k` is channel `85 a + k` of the argument. -/
theorem moved_apply (x : FVec F S16x510x64x64 .f32) (b : Fin 16) (a : Fin 6) (y q : Fin 64) (k : Fin 85) (ch : Fin 510)
    (hch : ch.val = 85 * a.val + k.val) : moved x (ix5 b a y q k) = x (ix4 b ch y q) := by
  pointwise [moved]
  exact congrArg (fun r => x (ix4 b r y q)) (Fin.ext (by dsimp only; omega))

/-- The five leading channels likewise. -/
theorem channel_apply (x : FVec F S16x510x64x64 .f32) (k : Fin 5) (b : Fin 16) (a : Fin 6) (y q : Fin 64) (ch : Fin 510)
    (hch : ch.val = 85 * a.val + k.val) : channel x k (ix4 b a y q) = x (ix4 b ch y q) := by
  have h := moved_apply x b a y q ⟨k.val, by omega⟩ ch hch
  fin_cases k <;> (simp only [channel]; pointwise; exact h)

/-- The reference's logistic of one number. -/
def squash1 (v : F .f32) : F .f32 :=
  FloatOps.hostDivf (FloatOps.ofBits .f32 0x3F800000#32)
    (FloatOps.addf (FloatOps.ofBits .f32 0x3F800000#32) (FloatOps.hostUnary .exp (FloatOps.hostNegf v)))

/-- `squash` works element by element. -/
theorem squash_apply (v : FVec F S16x6x64x64 .f32) (b : Fin 16) (a : Fin 6) (y q : Fin 64) :
    squash v (ix4 b a y q) = squash1 (v (ix4 b a y q)) := by
  pointwise [squash, squash1]

/-- The column numbers are the columns. -/
theorem cols_apply (b : Fin 16) (a : Fin 6) (y q : Fin 64) :
    cols (F := F) (ix4 b a y q) = FloatOps.sitofp .f32 (BitVec.ofNat 32 q.val) := by
  pointwise [cols]

/-- The row numbers are the rows. -/
theorem rows_apply (b : Fin 16) (a : Fin 6) (y q : Fin 64) :
    rows (F := F) (ix4 b a y q) = FloatOps.sitofp .f32 (BitVec.ofNat 32 y.val) := by
  pointwise [rows]

/-- Anchor `a`'s width (`j = 0`) or height (`j = 1`) in the table. -/
def anchorBits (a : Fin 6) (j : Fin 2) : BitVec 32 := lit0 ⟨2 * a.val + j.val, by omega⟩

/-- An anchor's extent in cells. -/
theorem cells_apply (a : Fin 6) (j : Fin 2) :
    cells (F := F) (ix2 a j) = FloatOps.hostDivf (FloatOps.ofBits .f32 (anchorBits a j)) (FloatOps.ofBits .f32 0x41000000#32) := by
  pointwise [cells]
  have h : S6x2.rowMajor (ix2 a j) = (⟨2 * a.val + j.val, by omega⟩ : Fin 12) := by
    fin_cases a <;> fin_cases j <;> rfl
  exact congrArg (fun r => FloatOps.hostDivf (FloatOps.ofBits .f32 (lit0 r)) (FloatOps.ofBits .f32 0x41000000#32)) h

/-- The widths depend on the anchor alone. -/
theorem widths_apply (b : Fin 16) (a : Fin 6) (y q : Fin 64) :
    widths (F := F) (ix4 b a y q) = cells (ix2 a 0) := by
  pointwise [widths]

/-- The heights depend on the anchor alone. -/
theorem heights_apply (b : Fin 16) (a : Fin 6) (y q : Fin 64) :
    heights (F := F) (ix4 b a y q) = cells (ix2 a 1) := by
  pointwise [heights]

/-- Layer `k` of the stack. -/
theorem stacked_apply (cx cy w h : FVec F S16x6x64x64 .f32) (b : Fin 16) (a : Fin 6) (y q : Fin 64) (k : Fin 4) :
    stacked cx cy w h (ix5 b a y q k) = if k.val = 0 then cx (ix4 b a y q) else if k.val = 1 then cy (ix4 b a y q)
      else if k.val = 2 then w (ix4 b a y q) else h (ix4 b a y q) := by
  pointwise [stacked, layer]
  fin_cases k <;> rfl

/-- A box coordinate is its layer's, times the cell's extent. -/
theorem boxes_apply (cx cy w h : FVec F S16x6x64x64 .f32) (b : Fin 16) (a : Fin 6) (y q : Fin 64) (p : Fin 24576) (k : Fin 4)
    (hp : p.val = 4096 * a.val + 64 * y.val + q.val) :
    boxes cx cy w h (ix3 b p k) = FloatOps.mulf (stacked cx cy w h (ix5 b a y q k)) (FloatOps.ofBits .f32 0x41000000#32) := by
  obtain ⟨ha, hy, hq⟩ : p.val / 4096 = a.val ∧ p.val / 64 % 64 = y.val ∧ p.val % 64 = q.val := ⟨by omega, by omega, by omega⟩
  pointwise [boxes, ha, hy, hq]

/-- The class channels are the argument's from the fifth on. -/
theorem classes_apply (x : FVec F S16x510x64x64 .f32) (b : Fin 16) (a : Fin 6) (y q : Fin 64) (p : Fin 24576) (k : Fin 80) (ch : Fin 510)
    (hp : p.val = 4096 * a.val + 64 * y.val + q.val) (hch : ch.val = 85 * a.val + (k.val + 5)) :
    classes x (ix3 b p k) = x (ix4 b ch y q) := by
  obtain ⟨ha, hy, hq⟩ : p.val / 4096 = a.val ∧ p.val / 64 % 64 = y.val ∧ p.val % 64 = q.val := ⟨by omega, by omega, by omega⟩
  pointwise [classes, ha, hy, hq]
  exact moved_apply x b a y q ⟨5 + k.val, by omega⟩ ch (by dsimp only; omega)

/-- Boxes, score and classes side by side, at a channel. -/
theorem joined_apply (bx : FVec F S16x24576x4 .f32) (o : FVec F S16x6x64x64 .f32) (cl : FVec F S16x24576x80 .f32) (b : Fin 16)
    (a : Fin 6) (y q : Fin 64) (p : Fin 24576) (k : Fin 85) (hp : p.val = 4096 * a.val + 64 * y.val + q.val) :
    joined bx o cl (ix3 b p k) = if h : k.val < 4 then bx (ix3 b p ⟨k.val, h⟩) else if k.val = 4 then o (ix4 b a y q)
      else cl (ix3 b p ⟨k.val - 5, by omega⟩) := by
  obtain ⟨ha, hy, hq⟩ : p.val / 4096 = a.val ∧ p.val / 64 % 64 = y.val ∧ p.val % 64 = q.val := ⟨by omega, by omega, by omega⟩
  pointwise [joined, ha, hy, hq]
  by_cases h : k.val < 4
  · rw [dif_pos h, dif_pos h]
  · rw [dif_neg h, dif_neg h]
    by_cases h' : k.val = 4
    · rw [dif_pos (by omega), if_pos h']
    · rw [dif_neg (by omega), if_neg h']
      exact congrArg (fun r => cl (ix3 b p r)) (Fin.ext (by dsimp only; omega))

/-! ## An element of the result -/

/-- Channel `k` of anchor `a` at row `y`, column `q`, by the plain formula, from its logit `v`. -/
def element (a : Fin 6) (y q k : ℕ) (v : F .f32) : F .f32 :=
  if k = 0 then FloatOps.mulf (FloatOps.addf (squash1 v) (FloatOps.sitofp .f32 (BitVec.ofNat 32 q))) (FloatOps.ofBits .f32 0x41000000#32)
  else if k = 1 then FloatOps.mulf (FloatOps.addf (squash1 v) (FloatOps.sitofp .f32 (BitVec.ofNat 32 y))) (FloatOps.ofBits .f32 0x41000000#32)
  else if k = 2 then FloatOps.mulf (FloatOps.mulf (FloatOps.hostUnary .exp v)
    (FloatOps.hostDivf (FloatOps.ofBits .f32 (anchorBits a 0)) (FloatOps.ofBits .f32 0x41000000#32))) (FloatOps.ofBits .f32 0x41000000#32)
  else if k = 3 then FloatOps.mulf (FloatOps.mulf (FloatOps.hostUnary .exp v)
    (FloatOps.hostDivf (FloatOps.ofBits .f32 (anchorBits a 1)) (FloatOps.ofBits .f32 0x41000000#32))) (FloatOps.ofBits .f32 0x41000000#32)
  else if k = 4 then squash1 v
  else v

/-- Image `b`, anchor `a`, row `y`, column `q`, channel `k` of the answer, from channel `85 a + k` of the argument at the same
    image, row and column. -/
theorem answer_apply (x : FVec F S16x510x64x64 .f32) (b : Fin 16) (p : Fin 24576) (k : Fin 85) (a : Fin 6) (y q : Fin 64) (ch : Fin 510)
    (hp : p.val = 4096 * a.val + 64 * y.val + q.val) (hch : ch.val = 85 * a.val + k.val) :
    answer x (ix3 b p k) = element a y.val q.val k.val (x (ix4 b ch y q)) := by
  unfold answer element
  rw [joined_apply _ _ _ b a y q p k hp]
  obtain ⟨k, hk⟩ := k
  dsimp only at hch ⊢
  have hexp (v : FVec F S16x6x64x64 .f32) : Host.exp v (ix4 b a y q) = FloatOps.hostUnary .exp (v (ix4 b a y q)) := rfl
  by_cases h0 : k = 0
  · subst h0
    rw [dif_pos (by decide), boxes_apply _ _ _ _ b a y q p _ hp, stacked_apply, ← channel_apply x 0 b a y q ch hch, ← cols_apply b a y q, ← squash_apply]
    rfl
  by_cases h1 : k = 1
  · subst h1
    rw [dif_pos (by decide), boxes_apply _ _ _ _ b a y q p _ hp, stacked_apply, ← channel_apply x 1 b a y q ch hch, ← rows_apply b a y q, ← squash_apply]
    rfl
  by_cases h2 : k = 2
  · subst h2
    rw [dif_pos (by decide), boxes_apply _ _ _ _ b a y q p _ hp, stacked_apply, ← channel_apply x 2 b a y q ch hch, ← cells_apply a 0, ← widths_apply b a y q]
    rfl
  by_cases h3 : k = 3
  · subst h3
    rw [dif_pos (by decide), boxes_apply _ _ _ _ b a y q p _ hp, stacked_apply, ← channel_apply x 3 b a y q ch hch, ← cells_apply a 1, ← heights_apply b a y q]
    rfl
  rw [dif_neg (by omega), if_neg h0, if_neg h1, if_neg h2, if_neg h3]
  by_cases h4 : k = 4
  · subst h4
    rw [if_pos rfl, if_pos rfl, squash_apply, channel_apply x 4 b a y q ch hch]
  · rw [if_neg h4, if_neg h4]
    exact classes_apply x b a y q p _ ch hp (by dsimp only; omega)

end Cert.ReferenceIdeal.Plain

end
-- ==== Proof.Equation.lean ====
/-
  THE EQUATION. Over the extended reals the kernel's rule for a channel and the reference's plain formula are one function:
  the logistic is `1 / (1 + exp (-v))`, and an anchor's extent divided by the cell's and multiplied by it again is itself.
-/
module

public import proofs.«01_k».proof.Proof.KernelValue
public import proofs.«01_k».proof.Proof.Reference

@[expose] public section

noncomputable section

namespace Cert.Equation

open Idealize.ShloMosaic

/-- Eight. -/
theorem eight : Ideal.ofBits .f32 0x41000000#32 = ((8 : ℝ) : EReal) := by
  simp [Ideal.ofBits, Ideal.ieee, -EReal.coe_mul]; norm_num

/-- The logistic, spelled out. -/
theorem logistic_eq (v : Ideal .f32) : FloatOps.logistic v = ReferenceIdeal.Plain.squash1 v := by
  unfold ReferenceIdeal.Plain.squash1
  pointwise
  rfl

/-- Every anchor's width is the reference's table entry. -/
theorem width_eq (a : Fin 6) : KernelIdeal.Decode.widthBits a = ReferenceIdeal.Plain.anchorBits a 0 := by
  fin_cases a <;> rfl
/-- Likewise the heights. -/
theorem height_eq (a : Fin 6) : KernelIdeal.Decode.heightBits a = ReferenceIdeal.Plain.anchorBits a 1 := by
  fin_cases a <;> rfl

/-- Dividing by eight and multiplying by eight again changes nothing. -/
theorem through_cells (w : EReal) : Ideal.div w ((8 : ℝ) : EReal) * ((8 : ℝ) : EReal) = w := by
  rw [Ideal.div_coe (by norm_num), mul_assoc, ← EReal.coe_mul]
  norm_num

/-- The two rules for a channel agree. -/
theorem element_eq (a : Fin 6) (y q k : ℕ) (v : Ideal .f32) :
    KernelIdeal.Decode.element a y q k v = ReferenceIdeal.Plain.element a y q k v := by
  unfold KernelIdeal.Decode.element ReferenceIdeal.Plain.element
  rw [logistic_eq, width_eq, height_eq]
  have h (w : BitVec 32) : (FloatOps.mulf (FloatOps.exp v) (FloatOps.ofBits .f32 w) : Ideal .f32)
      = FloatOps.mulf (FloatOps.mulf (FloatOps.hostUnary .exp v)
          (FloatOps.hostDivf (FloatOps.ofBits .f32 w) (FloatOps.ofBits .f32 0x41000000#32))) (FloatOps.ofBits .f32 0x41000000#32) := by
    show Ideal.exp v * Ideal.ofBits .f32 w = Ideal.exp v * Ideal.div (Ideal.ofBits .f32 w) (Ideal.ofBits .f32 0x41000000#32) * Ideal.ofBits .f32 0x41000000#32
    rw [eight, mul_assoc, through_cells]
  rw [h, h]

/-- What the kernel leaves in its result is the reference's answer to the kernel's argument. -/
theorem decoded_eq (m : (ℓ : Loc KernelIdeal.nD KernelIdeal.τ KernelIdeal.sig) → Buf (Elt Ideal) ℓ) (c : Dev KernelIdeal.nD) :
    KernelIdeal.Decode.decoded m c = ReferenceIdeal.Plain.answer (KernelIdeal.Decode.argument m c) := by
  funext j
  obtain ⟨b, p, k, rfl⟩ : ∃ (b : Fin 16) (p : Fin 24576) (k : Fin 85), j = ix3 b p k := ⟨j 0, j 1, j 2, eq_ix3 j⟩
  have hp : p.val < 24576 := p.isLt
  have hk : k.val < 85 := k.isLt
  have hp' : p.val = 4096 * (p.val / 4096) + 64 * (p.val / 64 % 64) + p.val % 64 := by omega
  have hc : 85 * (p.val / 4096) + k.val < 510 := by omega
  rw [KernelIdeal.Decode.decoded_apply m c b p k ⟨p.val / 4096, by omega⟩ ⟨p.val / 64 % 64, by omega⟩ ⟨p.val % 64, by omega⟩
      ⟨85 * (p.val / 4096) + k.val, hc⟩ hp' rfl, element_eq]
  exact (ReferenceIdeal.Plain.answer_apply (KernelIdeal.Decode.argument m c) b p k ⟨p.val / 4096, by omega⟩
    ⟨p.val / 64 % 64, by omega⟩ ⟨p.val % 64, by omega⟩ ⟨85 * (p.val / 4096) + k.val, hc⟩ hp' rfl).symm

end Cert.Equation

end
-- ==== Proof.lean ====
/-
  THE CLAIMS, ASSEMBLED. The kernel's run (Proof/Launched.lean) leaves `decoded` of the argument; the same run, at machine
  words, is the printed kernel's (Proof/Agree.lean); the reference's run leaves `answer` of the argument
  (Proof/Reference.lean); and over the extended reals the two are equal (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import proofs.«01_k».proof.Proof.Launched
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel terminates without a fault, leaves its argument unchanged and every counter at zero. -/
theorem frame_kernel : Cert.quiescent_Kernel := fun m ρ _ =>
  Cert.Agree.run_of _ _ ((θ_run Cert.KernelIdeal.defs _ _).mono (fun _ h => ⟨fun c => (h.1 c).2, h.2⟩)
    (Cert.KernelIdeal.Decode.run (F := Bits) m ρ))

/-- So does its idealization. -/
theorem frame_idealized : Cert.quiescent_KernelIdeal := fun m ρ _ =>
  (θ_run Cert.KernelIdeal.defs _ _).mono (fun _ h => ⟨fun c => (h.1 c).2, h.2⟩) (Cert.KernelIdeal.Decode.run (F := Ideal) m ρ)

/-- So does the reference, which has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories agreeing on the argument, kernel and reference end with equal results over the extended reals. -/
theorem results_equal : Cert.algebraic_KernelIdeal_ReferenceIdeal := fun m ρ m' ρ' _ hag =>
  ⟨fun c => Cert.KernelIdeal.Decode.decoded m c,
    (θ_run Cert.KernelIdeal.defs _ _).mono (fun _ h => h.1) (Cert.KernelIdeal.Decode.run (F := Ideal) m ρ),
    (θ_run Cert.ReferenceIdeal.defs _ _).mono
      (fun _ h c => ⟨(h c).1.trans ((Cert.ReferenceIdeal.Plain.res_eq m' c).trans
        ((congrArg Cert.ReferenceIdeal.Plain.answer (hag c)).trans (Cert.Equation.decoded_eq m c).symm)), (h c).2⟩)
      (Cert.ReferenceIdeal.Value.run (F := Ideal) m' ρ')⟩

/-- Every claim. -/
theorem claim : Cert.Claim := ⟨Cert.Kernel.Gen.facts, Cert.KernelIdeal.Gen.facts, Cert.ReferenceIdeal.Gen.facts,
  frame_kernel, frame_idealized, frame_reference, trivial, results_equal⟩

end Cert.Proof

end
